-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S512x256 : Shape := ⟨2, ![512, 256]⟩
abbrev S256x64 : Shape := ⟨2, ![256, 64]⟩
abbrev S512x1 : Shape := ⟨2, ![512, 1]⟩
abbrev S4x256x512 : Shape := ⟨3, ![4, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S512x256 .f32) (main_arg1 : FVec F S256x64 .f32) (main_arg2 : IVec S512x1 32) (main_arg3 : FVec F S4x256x512 .f32) (main_arg4 : FVec F S256x512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  main_v8
-- ==== Pre_finite_scores_ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S512x256 .f32) (main_arg1 : FVec F S256x64 .f32) (main_arg2 : IVec S512x1 32) (main_arg3 : FVec F S64x256x512 .f32) (main_arg4 : FVec F S256x512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  main_v8
-- ==== Kernel.lean ====
abbrev S512x256 : Shape := ⟨2, ![512, 256]⟩
abbrev S256x64 : Shape := ⟨2, ![256, 64]⟩
abbrev S512x1 : Shape := ⟨2, ![512, 1]⟩
abbrev S4x256x512 : Shape := ⟨3, ![4, 256, 512]⟩
abbrev S256x512 : Shape := ⟨2, ![256, 512]⟩
abbrev S512x512 : Shape := ⟨2, ![512, 512]⟩
abbrev S16x32x512 : Shape := ⟨3, ![16, 32, 512]⟩
abbrev S32x512 : Shape := ⟨2, ![32, 512]⟩
abbrev S16 : Shape := ⟨1, ![16]⟩
abbrev S1 : Shape := ⟨1, ![1]⟩
abbrev S_ : Shape := ⟨0, ![]⟩
abbrev S512x64 : Shape := ⟨2, ![512, 64]⟩
abbrev S512 : Shape := ⟨1, ![512]⟩
abbrev S1x256x512 : Shape := ⟨3, ![1, 256, 512]⟩
abbrev S1x32x512 : Shape := ⟨3, ![1, 32, 512]⟩
abbrev S32x256 : Shape := ⟨2, ![32, 256]⟩

abbrev nBuf : Space → Nat
  | .hbm => 6
  | .vmem => 10
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x1, .i32⟩
  | .hbm, ⟨3, _⟩ => ⟨S4x256x512, .f32⟩
  | .hbm, ⟨4, _⟩ => ⟨S256x512, .f32⟩
  | .hbm, ⟨5, _⟩ => ⟨S512x512, .f32⟩
  | .local _ .vmem, ⟨0, _⟩ => ⟨S512x256, .f32⟩
  | .local _ .vmem, ⟨1, _⟩ => ⟨S256x64, .f32⟩
  | .local _ .vmem, ⟨2, _⟩ => ⟨S512x1, .i32⟩
  | .local _ .vmem, ⟨3, _⟩ => ⟨S4x256x512, .f32⟩
  | .local _ .vmem, ⟨4, _⟩ => ⟨S256x512, .f32⟩
  | .local _ .vmem, ⟨5, _⟩ => ⟨S512x512, .f32⟩
  | .local _ .vmem, ⟨6, _⟩ => ⟨S16x32x512, .bf16⟩
  | .local _ .vmem, ⟨7, _⟩ => ⟨S16x32x512, .bf16⟩
  | .local _ .vmem, ⟨8, _⟩ => ⟨S32x512, .bf16⟩
  | .local _ .vmem, ⟨9, _⟩ => ⟨S16x32x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 17 70 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 16

abbrev nD : Nat := 16
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7 : BitVec 32 := 1#32
  let v16 : BitVec 32 := Scalar.muli v13 c1_i32_7
  let v17 : BitVec 32 := Scalar.addi c0_i32_8 v16
  v17.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v18 : BitVec 32 := Scalar.addi v2 c2_i32
  let c16_i32_9 : BitVec 32 := 16#32
  let c0_i32_10 : BitVec 32 := 0#32
  let v19 : BitVec 1 := Scalar.cmpi .eq c16_i32_9 c0_i32_10
  let c1_i32_11 : BitVec 32 := 1#32
  let v20 : BitVec 32 := Scalar.select v19 c1_i32_11 c16_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_16 : BitVec 32 := 1#32
  let v31 : BitVec 32 := Scalar.muli v28 c1_i32_16
  let v32 : BitVec 32 := Scalar.addi c0_i32_17 v31
  v32.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v33 : BitVec 32 := Scalar.addi v2 c3_i32
  let c16_i32_18 : BitVec 32 := 16#32
  let c0_i32_19 : BitVec 32 := 0#32
  let v34 : BitVec 1 := Scalar.cmpi .eq c16_i32_18 c0_i32_19
  let c1_i32_20 : BitVec 32 := 1#32
  let v35 : BitVec 32 := Scalar.select v34 c1_i32_20 c16_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1_i32_25 : BitVec 32 := 1#32
  let v46 : BitVec 32 := Scalar.muli v43 c1_i32_25
  let v47 : BitVec 32 := Scalar.addi c0_i32_26 v46
  v47.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v48 : BitVec 32 := Scalar.addi v2 c4_i32
  let c16_i32_27 : BitVec 32 := 16#32
  let c0_i32_28 : BitVec 32 := 0#32
  let v49 : BitVec 1 := Scalar.cmpi .eq c16_i32_27 c0_i32_28
  let c1_i32_29 : BitVec 32 := 1#32
  let v50 : BitVec 32 := Scalar.select v49 c1_i32_29 c16_i32_27
  let v51 : BitVec 32 := Scalar.remsi v48 v50
  let c0_i32_31 : BitVec 32 := 0#32
  let v53 : BitVec 1 := Scalar.cmpi .slt v51 c0_i32_31
  let c0_i32_32 : BitVec 32 := 0#32
  let v54 : BitVec 1 := Scalar.cmpi .slt v50 c0_i32_32
  let v55 : BitVec 1 := Scalar.xori v53 v54
  let c0_i32_30 : BitVec 32 := 0#32
  let v52 : BitVec 1 := Scalar.cmpi .ne v51 c0_i32_30
  let v56 : BitVec 1 := Scalar.andi v55 v52
  let v57 : BitVec 32 := Scalar.addi v51 v50
  let v58 : BitVec 32 := Scalar.select v56 v57 v51
  let c1_i32_34 : BitVec 32 := 1#32
  let v61 : BitVec 32 := Scalar.muli v58 c1_i32_34
  let v62 : BitVec 32 := Scalar.addi c0_i32_35 v61
  v62.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v63 : BitVec 32 := Scalar.addi v2 c5_i32
  let c16_i32_36 : BitVec 32 := 16#32
  let c0_i32_37 : BitVec 32 := 0#32
  let v64 : BitVec 1 := Scalar.cmpi .eq c16_i32_36 c0_i32_37
  let c1_i32_38 : BitVec 32 := 1#32
  let v65 : BitVec 32 := Scalar.select v64 c1_i32_38 c16_i32_36
  let v66 : BitVec 32 := Scalar.remsi v63 v65
  let c0_i32_40 : BitVec 32 := 0#32
  let v68 : BitVec 1 := Scalar.cmpi .slt v66 c0_i32_40
  let c0_i32_41 : BitVec 32 := 0#32
  let v69 : BitVec 1 := Scalar.cmpi .slt v65 c0_i32_41
  let v70 : BitVec 1 := Scalar.xori v68 v69
  let c0_i32_39 : BitVec 32 := 0#32
  let v67 : BitVec 1 := Scalar.cmpi .ne v66 c0_i32_39
  let v71 : BitVec 1 := Scalar.andi v70 v67
  let v72 : BitVec 32 := Scalar.addi v66 v65
  let v73 : BitVec 32 := Scalar.select v71 v72 v66
  let c1_i32_43 : BitVec 32 := 1#32
  let v76 : BitVec 32 := Scalar.muli v73 c1_i32_43
  let v77 : BitVec 32 := Scalar.addi c0_i32_44 v76
  v77.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v78 : BitVec 32 := Scalar.addi v2 c6_i32
  let c16_i32_45 : BitVec 32 := 16#32
  let c0_i32_46 : BitVec 32 := 0#32
  let v79 : BitVec 1 := Scalar.cmpi .eq c16_i32_45 c0_i32_46
  let c1_i32_47 : BitVec 32 := 1#32
  let v80 : BitVec 32 := Scalar.select v79 c1_i32_47 c16_i32_45
  let v81 : BitVec 32 := Scalar.remsi v78 v80
  let c0_i32_49 : BitVec 32 := 0#32
  let v83 : BitVec 1 := Scalar.cmpi .slt v81 c0_i32_49
  let c0_i32_50 : BitVec 32 := 0#32
  let v84 : BitVec 1 := Scalar.cmpi .slt v80 c0_i32_50
  let v85 : BitVec 1 := Scalar.xori v83 v84
  let c0_i32_48 : BitVec 32 := 0#32
  let v82 : BitVec 1 := Scalar.cmpi .ne v81 c0_i32_48
  let v86 : BitVec 1 := Scalar.andi v85 v82
  let v87 : BitVec 32 := Scalar.addi v81 v80
  let v88 : BitVec 32 := Scalar.select v86 v87 v81
  let c1_i32_52 : BitVec 32 := 1#32
  let v91 : BitVec 32 := Scalar.muli v88 c1_i32_52
  let v92 : BitVec 32 := Scalar.addi c0_i32_53 v91
  v92.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v93 : BitVec 32 := Scalar.addi v2 c7_i32
  let c16_i32_54 : BitVec 32 := 16#32
  let c0_i32_55 : BitVec 32 := 0#32
  let v94 : BitVec 1 := Scalar.cmpi .eq c16_i32_54 c0_i32_55
  let c1_i32_56 : BitVec 32 := 1#32
  let v95 : BitVec 32 := Scalar.select v94 c1_i32_56 c16_i32_54
  let v96 : BitVec 32 := Scalar.remsi v93 v95
  let c0_i32_58 : BitVec 32 := 0#32
  let v98 : BitVec 1 := Scalar.cmpi .slt v96 c0_i32_58
  let c0_i32_59 : BitVec 32 := 0#32
  let v99 : BitVec 1 := Scalar.cmpi .slt v95 c0_i32_59
  let v100 : BitVec 1 := Scalar.xori v98 v99
  let c0_i32_57 : BitVec 32 := 0#32
  let v97 : BitVec 1 := Scalar.cmpi .ne v96 c0_i32_57
  let v101 : BitVec 1 := Scalar.andi v100 v97
  let v102 : BitVec 32 := Scalar.addi v96 v95
  let v103 : BitVec 32 := Scalar.select v101 v102 v96
  let c1_i32_61 : BitVec 32 := 1#32
  let v106 : BitVec 32 := Scalar.muli v103 c1_i32_61
  let v107 : BitVec 32 := Scalar.addi c0_i32_62 v106
  v107.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v108 : BitVec 32 := Scalar.addi v2 c8_i32
  let c16_i32_63 : BitVec 32 := 16#32
  let c0_i32_64 : BitVec 32 := 0#32
  let v109 : BitVec 1 := Scalar.cmpi .eq c16_i32_63 c0_i32_64
  let c1_i32_65 : BitVec 32 := 1#32
  let v110 : BitVec 32 := Scalar.select v109 c1_i32_65 c16_i32_63
  let v111 : BitVec 32 := Scalar.remsi v108 v110
  let c0_i32_67 : BitVec 32 := 0#32
  let v113 : BitVec 1 := Scalar.cmpi .slt v111 c0_i32_67
  let c0_i32_68 : BitVec 32 := 0#32
  let v114 : BitVec 1 := Scalar.cmpi .slt v110 c0_i32_68
  let v115 : BitVec 1 := Scalar.xori v113 v114
  let c0_i32_66 : BitVec 32 := 0#32
  let v112 : BitVec 1 := Scalar.cmpi .ne v111 c0_i32_66
  let v116 : BitVec 1 := Scalar.andi v115 v112
  let v117 : BitVec 32 := Scalar.addi v111 v110
  let v118 : BitVec 32 := Scalar.select v116 v117 v111
  let c1_i32_70 : BitVec 32 := 1#32
  let v121 : BitVec 32 := Scalar.muli v118 c1_i32_70
  let v122 : BitVec 32 := Scalar.addi c0_i32_71 v121
  v122.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v123 : BitVec 32 := Scalar.addi v2 c9_i32
  let c16_i32_72 : BitVec 32 := 16#32
  let c0_i32_73 : BitVec 32 := 0#32
  let v124 : BitVec 1 := Scalar.cmpi .eq c16_i32_72 c0_i32_73
  let c1_i32_74 : BitVec 32 := 1#32
  let v125 : BitVec 32 := Scalar.select v124 c1_i32_74 c16_i32_72
  let v126 : BitVec 32 := Scalar.remsi v123 v125
  let c0_i32_76 : BitVec 32 := 0#32
  let v128 : BitVec 1 := Scalar.cmpi .slt v126 c0_i32_76
  let c0_i32_77 : BitVec 32 := 0#32
  let v129 : BitVec 1 := Scalar.cmpi .slt v125 c0_i32_77
  let v130 : BitVec 1 := Scalar.xori v128 v129
  let c0_i32_75 : BitVec 32 := 0#32
  let v127 : BitVec 1 := Scalar.cmpi .ne v126 c0_i32_75
  let v131 : BitVec 1 := Scalar.andi v130 v127
  let v132 : BitVec 32 := Scalar.addi v126 v125
  let v133 : BitVec 32 := Scalar.select v131 v132 v126
  let c1_i32_79 : BitVec 32 := 1#32
  let v136 : BitVec 32 := Scalar.muli v133 c1_i32_79
  let v137 : BitVec 32 := Scalar.addi c0_i32_80 v136
  v137.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v138 : BitVec 32 := Scalar.addi v2 c10_i32
  let c16_i32_81 : BitVec 32 := 16#32
  let c0_i32_82 : BitVec 32 := 0#32
  let v139 : BitVec 1 := Scalar.cmpi .eq c16_i32_81 c0_i32_82
  let c1_i32_83 : BitVec 32 := 1#32
  let v140 : BitVec 32 := Scalar.select v139 c1_i32_83 c16_i32_81
  let v141 : BitVec 32 := Scalar.remsi v138 v140
  let c0_i32_85 : BitVec 32 := 0#32
  let v143 : BitVec 1 := Scalar.cmpi .slt v141 c0_i32_85
  let c0_i32_86 : BitVec 32 := 0#32
  let v144 : BitVec 1 := Scalar.cmpi .slt v140 c0_i32_86
  let v145 : BitVec 1 := Scalar.xori v143 v144
  let c0_i32_84 : BitVec 32 := 0#32
  let v142 : BitVec 1 := Scalar.cmpi .ne v141 c0_i32_84
  let v146 : BitVec 1 := Scalar.andi v145 v142
  let v147 : BitVec 32 := Scalar.addi v141 v140
  let v148 : BitVec 32 := Scalar.select v146 v147 v141
  let c1_i32_88 : BitVec 32 := 1#32
  let v151 : BitVec 32 := Scalar.muli v148 c1_i32_88
  let v152 : BitVec 32 := Scalar.addi c0_i32_89 v151
  v152.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v153 : BitVec 32 := Scalar.addi v2 c11_i32
  let c16_i32_90 : BitVec 32 := 16#32
  let c0_i32_91 : BitVec 32 := 0#32
  let v154 : BitVec 1 := Scalar.cmpi .eq c16_i32_90 c0_i32_91
  let c1_i32_92 : BitVec 32 := 1#32
  let v155 : BitVec 32 := Scalar.select v154 c1_i32_92 c16_i32_90
  let v156 : BitVec 32 := Scalar.remsi v153 v155
  let c0_i32_94 : BitVec 32 := 0#32
  let v158 : BitVec 1 := Scalar.cmpi .slt v156 c0_i32_94
  let c0_i32_95 : BitVec 32 := 0#32
  let v159 : BitVec 1 := Scalar.cmpi .slt v155 c0_i32_95
  let v160 : BitVec 1 := Scalar.xori v158 v159
  let c0_i32_93 : BitVec 32 := 0#32
  let v157 : BitVec 1 := Scalar.cmpi .ne v156 c0_i32_93
  let v161 : BitVec 1 := Scalar.andi v160 v157
  let v162 : BitVec 32 := Scalar.addi v156 v155
  let v163 : BitVec 32 := Scalar.select v161 v162 v156
  let c1_i32_97 : BitVec 32 := 1#32
  let v166 : BitVec 32 := Scalar.muli v163 c1_i32_97
  let v167 : BitVec 32 := Scalar.addi c0_i32_98 v166
  v167.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v168 : BitVec 32 := Scalar.addi v2 c12_i32
  let c16_i32_99 : BitVec 32 := 16#32
  let c0_i32_100 : BitVec 32 := 0#32
  let v169 : BitVec 1 := Scalar.cmpi .eq c16_i32_99 c0_i32_100
  let c1_i32_101 : BitVec 32 := 1#32
  let v170 : BitVec 32 := Scalar.select v169 c1_i32_101 c16_i32_99
  let v171 : BitVec 32 := Scalar.remsi v168 v170
  let c0_i32_103 : BitVec 32 := 0#32
  let v173 : BitVec 1 := Scalar.cmpi .slt v171 c0_i32_103
  let c0_i32_104 : BitVec 32 := 0#32
  let v174 : BitVec 1 := Scalar.cmpi .slt v170 c0_i32_104
  let v175 : BitVec 1 := Scalar.xori v173 v174
  let c0_i32_102 : BitVec 32 := 0#32
  let v172 : BitVec 1 := Scalar.cmpi .ne v171 c0_i32_102
  let v176 : BitVec 1 := Scalar.andi v175 v172
  let v177 : BitVec 32 := Scalar.addi v171 v170
  let v178 : BitVec 32 := Scalar.select v176 v177 v171
  let c1_i32_106 : BitVec 32 := 1#32
  let v181 : BitVec 32 := Scalar.muli v178 c1_i32_106
  let v182 : BitVec 32 := Scalar.addi c0_i32_107 v181
  v182.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v183 : BitVec 32 := Scalar.addi v2 c13_i32
  let c16_i32_108 : BitVec 32 := 16#32
  let c0_i32_109 : BitVec 32 := 0#32
  let v184 : BitVec 1 := Scalar.cmpi .eq c16_i32_108 c0_i32_109
  let c1_i32_110 : BitVec 32 := 1#32
  let v185 : BitVec 32 := Scalar.select v184 c1_i32_110 c16_i32_108
  let v186 : BitVec 32 := Scalar.remsi v183 v185
  let c0_i32_112 : BitVec 32 := 0#32
  let v188 : BitVec 1 := Scalar.cmpi .slt v186 c0_i32_112
  let c0_i32_113 : BitVec 32 := 0#32
  let v189 : BitVec 1 := Scalar.cmpi .slt v185 c0_i32_113
  let v190 : BitVec 1 := Scalar.xori v188 v189
  let c0_i32_111 : BitVec 32 := 0#32
  let v187 : BitVec 1 := Scalar.cmpi .ne v186 c0_i32_111
  let v191 : BitVec 1 := Scalar.andi v190 v187
  let v192 : BitVec 32 := Scalar.addi v186 v185
  let v193 : BitVec 32 := Scalar.select v191 v192 v186
  let c1_i32_115 : BitVec 32 := 1#32
  let v196 : BitVec 32 := Scalar.muli v193 c1_i32_115
  let v197 : BitVec 32 := Scalar.addi c0_i32_116 v196
  v197.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v198 : BitVec 32 := Scalar.addi v2 c14_i32
  let c16_i32_117 : BitVec 32 := 16#32
  let c0_i32_118 : BitVec 32 := 0#32
  let v199 : BitVec 1 := Scalar.cmpi .eq c16_i32_117 c0_i32_118
  let c1_i32_119 : BitVec 32 := 1#32
  let v200 : BitVec 32 := Scalar.select v199 c1_i32_119 c16_i32_117
  let v201 : BitVec 32 := Scalar.remsi v198 v200
  let c0_i32_121 : BitVec 32 := 0#32
  let v203 : BitVec 1 := Scalar.cmpi .slt v201 c0_i32_121
  let c0_i32_122 : BitVec 32 := 0#32
  let v204 : BitVec 1 := Scalar.cmpi .slt v200 c0_i32_122
  let v205 : BitVec 1 := Scalar.xori v203 v204
  let c0_i32_120 : BitVec 32 := 0#32
  let v202 : BitVec 1 := Scalar.cmpi .ne v201 c0_i32_120
  let v206 : BitVec 1 := Scalar.andi v205 v202
  let v207 : BitVec 32 := Scalar.addi v201 v200
  let v208 : BitVec 32 := Scalar.select v206 v207 v201
  let c1_i32_124 : BitVec 32 := 1#32
  let v211 : BitVec 32 := Scalar.muli v208 c1_i32_124
  let v212 : BitVec 32 := Scalar.addi c0_i32_125 v211
  v212.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v213 : BitVec 32 := Scalar.addi v2 c15_i32
  let c16_i32_126 : BitVec 32 := 16#32
  let c0_i32_127 : BitVec 32 := 0#32
  let v214 : BitVec 1 := Scalar.cmpi .eq c16_i32_126 c0_i32_127
  let c1_i32_128 : BitVec 32 := 1#32
  let v215 : BitVec 32 := Scalar.select v214 c1_i32_128 c16_i32_126
  let v216 : BitVec 32 := Scalar.remsi v213 v215
  let c0_i32_130 : BitVec 32 := 0#32
  let v218 : BitVec 1 := Scalar.cmpi .slt v216 c0_i32_130
  let c0_i32_131 : BitVec 32 := 0#32
  let v219 : BitVec 1 := Scalar.cmpi .slt v215 c0_i32_131
  let v220 : BitVec 1 := Scalar.xori v218 v219
  let c0_i32_129 : BitVec 32 := 0#32
  let v217 : BitVec 1 := Scalar.cmpi .ne v216 c0_i32_129
  let v221 : BitVec 1 := Scalar.andi v220 v217
  let v222 : BitVec 32 := Scalar.addi v216 v215
  let v223 : BitVec 32 := Scalar.select v221 v222 v216
  let c1_i32_133 : BitVec 32 := 1#32
  let v226 : BitVec 32 := Scalar.muli v223 c1_i32_133
  let v227 : BitVec 32 := Scalar.addi c0_i32_134 v226
  v227.toNat
def k0_off2 (d0 : Dev nD) (c1_i32_178 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v321 : BitVec 32 := Scalar.addi v2 c1_i32_178
  let c16_i32_179 : BitVec 32 := 16#32
  let c0_i32_180 : BitVec 32 := 0#32
  let v322 : BitVec 1 := Scalar.cmpi .eq c16_i32_179 c0_i32_180
  let c1_i32_181 : BitVec 32 := 1#32
  let v323 : BitVec 32 := Scalar.select v322 c1_i32_181 c16_i32_179
  let v324 : BitVec 32 := Scalar.remsi v321 v323
  let c0_i32_183 : BitVec 32 := 0#32
  let v326 : BitVec 1 := Scalar.cmpi .slt v324 c0_i32_183
  let c0_i32_184 : BitVec 32 := 0#32
  let v327 : BitVec 1 := Scalar.cmpi .slt v323 c0_i32_184
  let v328 : BitVec 1 := Scalar.xori v326 v327
  let c0_i32_182 : BitVec 32 := 0#32
  let v325 : BitVec 1 := Scalar.cmpi .ne v324 c0_i32_182
  let v329 : BitVec 1 := Scalar.andi v328 v325
  let v330 : BitVec 32 := Scalar.addi v324 v323
  let v331 : BitVec 32 := Scalar.select v329 v330 v324
  ![v331.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_190 : BitVec 32 := 0#32
  let c0_i32_191 : BitVec 32 := 0#32
  ![v2.toNat, 0, 0]
def k0_off4 (d0 : Dev nD) (c1_i32_178 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v321 : BitVec 32 := Scalar.addi v2 c1_i32_178
  let c16_i32_179 : BitVec 32 := 16#32
  let c0_i32_180 : BitVec 32 := 0#32
  let v322 : BitVec 1 := Scalar.cmpi .eq c16_i32_179 c0_i32_180
  let c1_i32_181 : BitVec 32 := 1#32
  let v323 : BitVec 32 := Scalar.select v322 c1_i32_181 c16_i32_179
  let v324 : BitVec 32 := Scalar.remsi v321 v323
  let c0_i32_183 : BitVec 32 := 0#32
  let v326 : BitVec 1 := Scalar.cmpi .slt v324 c0_i32_183
  let c0_i32_184 : BitVec 32 := 0#32
  let v327 : BitVec 1 := Scalar.cmpi .slt v323 c0_i32_184
  let v328 : BitVec 1 := Scalar.xori v326 v327
  let c0_i32_182 : BitVec 32 := 0#32
  let v325 : BitVec 1 := Scalar.cmpi .ne v324 c0_i32_182
  let v329 : BitVec 1 := Scalar.andi v328 v325
  let v330 : BitVec 32 := Scalar.addi v324 v323
  let v331 : BitVec 32 := Scalar.select v329 v330 v324
  let c0_i32_192 : BitVec 32 := 0#32
  let c0_i32_193 : BitVec 32 := 0#32
  ![v331.toNat, 0, 0]
def k0_dev16 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_178 : BitVec 32 := 1#32
  let v321 : BitVec 32 := Scalar.addi v2 c1_i32_178
  let c16_i32_179 : BitVec 32 := 16#32
  let c0_i32_180 : BitVec 32 := 0#32
  let v322 : BitVec 1 := Scalar.cmpi .eq c16_i32_179 c0_i32_180
  let c1_i32_181 : BitVec 32 := 1#32
  let v323 : BitVec 32 := Scalar.select v322 c1_i32_181 c16_i32_179
  let v324 : BitVec 32 := Scalar.remsi v321 v323
  let c0_i32_183 : BitVec 32 := 0#32
  let v326 : BitVec 1 := Scalar.cmpi .slt v324 c0_i32_183
  let c0_i32_184 : BitVec 32 := 0#32
  let v327 : BitVec 1 := Scalar.cmpi .slt v323 c0_i32_184
  let v328 : BitVec 1 := Scalar.xori v326 v327
  let c0_i32_182 : BitVec 32 := 0#32
  let v325 : BitVec 1 := Scalar.cmpi .ne v324 c0_i32_182
  let v329 : BitVec 1 := Scalar.andi v328 v325
  let v330 : BitVec 32 := Scalar.addi v324 v323
  let v331 : BitVec 32 := Scalar.select v329 v330 v324
  let c1_i32_188 : BitVec 32 := 1#32
  let v334 : BitVec 32 := Scalar.muli v331 c1_i32_188
  let v335 : BitVec 32 := Scalar.addi c0_i32_189 v334
  v335.toNat
def k0_dev17 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_194 : BitVec 32 := 2#32
  let v344 : BitVec 32 := Scalar.addi v2 c2_i32_194
  let c16_i32_195 : BitVec 32 := 16#32
  let c0_i32_196 : BitVec 32 := 0#32
  let v345 : BitVec 1 := Scalar.cmpi .eq c16_i32_195 c0_i32_196
  let c1_i32_197 : BitVec 32 := 1#32
  let v346 : BitVec 32 := Scalar.select v345 c1_i32_197 c16_i32_195
  let v347 : BitVec 32 := Scalar.remsi v344 v346
  let c0_i32_199 : BitVec 32 := 0#32
  let v349 : BitVec 1 := Scalar.cmpi .slt v347 c0_i32_199
  let c0_i32_200 : BitVec 32 := 0#32
  let v350 : BitVec 1 := Scalar.cmpi .slt v346 c0_i32_200
  let v351 : BitVec 1 := Scalar.xori v349 v350
  let c0_i32_198 : BitVec 32 := 0#32
  let v348 : BitVec 1 := Scalar.cmpi .ne v347 c0_i32_198
  let v352 : BitVec 1 := Scalar.andi v351 v348
  let v353 : BitVec 32 := Scalar.addi v347 v346
  let v354 : BitVec 32 := Scalar.select v352 v353 v347
  let c1_i32_204 : BitVec 32 := 1#32
  let v357 : BitVec 32 := Scalar.muli v354 c1_i32_204
  let v358 : BitVec 32 := Scalar.addi c0_i32_205 v357
  v358.toNat
def k0_dev18 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_210 : BitVec 32 := 3#32
  let v367 : BitVec 32 := Scalar.addi v2 c3_i32_210
  let c16_i32_211 : BitVec 32 := 16#32
  let c0_i32_212 : BitVec 32 := 0#32
  let v368 : BitVec 1 := Scalar.cmpi .eq c16_i32_211 c0_i32_212
  let c1_i32_213 : BitVec 32 := 1#32
  let v369 : BitVec 32 := Scalar.select v368 c1_i32_213 c16_i32_211
  let v370 : BitVec 32 := Scalar.remsi v367 v369
  let c0_i32_215 : BitVec 32 := 0#32
  let v372 : BitVec 1 := Scalar.cmpi .slt v370 c0_i32_215
  let c0_i32_216 : BitVec 32 := 0#32
  let v373 : BitVec 1 := Scalar.cmpi .slt v369 c0_i32_216
  let v374 : BitVec 1 := Scalar.xori v372 v373
  let c0_i32_214 : BitVec 32 := 0#32
  let v371 : BitVec 1 := Scalar.cmpi .ne v370 c0_i32_214
  let v375 : BitVec 1 := Scalar.andi v374 v371
  let v376 : BitVec 32 := Scalar.addi v370 v369
  let v377 : BitVec 32 := Scalar.select v375 v376 v370
  let c1_i32_220 : BitVec 32 := 1#32
  let v380 : BitVec 32 := Scalar.muli v377 c1_i32_220
  let v381 : BitVec 32 := Scalar.addi c0_i32_221 v380
  v381.toNat
def k0_dev19 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_226 : BitVec 32 := 4#32
  let v390 : BitVec 32 := Scalar.addi v2 c4_i32_226
  let c16_i32_227 : BitVec 32 := 16#32
  let c0_i32_228 : BitVec 32 := 0#32
  let v391 : BitVec 1 := Scalar.cmpi .eq c16_i32_227 c0_i32_228
  let c1_i32_229 : BitVec 32 := 1#32
  let v392 : BitVec 32 := Scalar.select v391 c1_i32_229 c16_i32_227
  let v393 : BitVec 32 := Scalar.remsi v390 v392
  let c0_i32_231 : BitVec 32 := 0#32
  let v395 : BitVec 1 := Scalar.cmpi .slt v393 c0_i32_231
  let c0_i32_232 : BitVec 32 := 0#32
  let v396 : BitVec 1 := Scalar.cmpi .slt v392 c0_i32_232
  let v397 : BitVec 1 := Scalar.xori v395 v396
  let c0_i32_230 : BitVec 32 := 0#32
  let v394 : BitVec 1 := Scalar.cmpi .ne v393 c0_i32_230
  let v398 : BitVec 1 := Scalar.andi v397 v394
  let v399 : BitVec 32 := Scalar.addi v393 v392
  let v400 : BitVec 32 := Scalar.select v398 v399 v393
  let c1_i32_236 : BitVec 32 := 1#32
  let v403 : BitVec 32 := Scalar.muli v400 c1_i32_236
  let v404 : BitVec 32 := Scalar.addi c0_i32_237 v403
  v404.toNat
def k0_dev20 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_242 : BitVec 32 := 5#32
  let v413 : BitVec 32 := Scalar.addi v2 c5_i32_242
  let c16_i32_243 : BitVec 32 := 16#32
  let c0_i32_244 : BitVec 32 := 0#32
  let v414 : BitVec 1 := Scalar.cmpi .eq c16_i32_243 c0_i32_244
  let c1_i32_245 : BitVec 32 := 1#32
  let v415 : BitVec 32 := Scalar.select v414 c1_i32_245 c16_i32_243
  let v416 : BitVec 32 := Scalar.remsi v413 v415
  let c0_i32_247 : BitVec 32 := 0#32
  let v418 : BitVec 1 := Scalar.cmpi .slt v416 c0_i32_247
  let c0_i32_248 : BitVec 32 := 0#32
  let v419 : BitVec 1 := Scalar.cmpi .slt v415 c0_i32_248
  let v420 : BitVec 1 := Scalar.xori v418 v419
  let c0_i32_246 : BitVec 32 := 0#32
  let v417 : BitVec 1 := Scalar.cmpi .ne v416 c0_i32_246
  let v421 : BitVec 1 := Scalar.andi v420 v417
  let v422 : BitVec 32 := Scalar.addi v416 v415
  let v423 : BitVec 32 := Scalar.select v421 v422 v416
  let c1_i32_252 : BitVec 32 := 1#32
  let v426 : BitVec 32 := Scalar.muli v423 c1_i32_252
  let v427 : BitVec 32 := Scalar.addi c0_i32_253 v426
  v427.toNat
def k0_dev21 (d0 : Dev nD) : Nat :=
  let c0_i32_269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_258 : BitVec 32 := 6#32
  let v436 : BitVec 32 := Scalar.addi v2 c6_i32_258
  let c16_i32_259 : BitVec 32 := 16#32
  let c0_i32_260 : BitVec 32 := 0#32
  let v437 : BitVec 1 := Scalar.cmpi .eq c16_i32_259 c0_i32_260
  let c1_i32_261 : BitVec 32 := 1#32
  let v438 : BitVec 32 := Scalar.select v437 c1_i32_261 c16_i32_259
  let v439 : BitVec 32 := Scalar.remsi v436 v438
  let c0_i32_263 : BitVec 32 := 0#32
  let v441 : BitVec 1 := Scalar.cmpi .slt v439 c0_i32_263
  let c0_i32_264 : BitVec 32 := 0#32
  let v442 : BitVec 1 := Scalar.cmpi .slt v438 c0_i32_264
  let v443 : BitVec 1 := Scalar.xori v441 v442
  let c0_i32_262 : BitVec 32 := 0#32
  let v440 : BitVec 1 := Scalar.cmpi .ne v439 c0_i32_262
  let v444 : BitVec 1 := Scalar.andi v443 v440
  let v445 : BitVec 32 := Scalar.addi v439 v438
  let v446 : BitVec 32 := Scalar.select v444 v445 v439
  let c1_i32_268 : BitVec 32 := 1#32
  let v449 : BitVec 32 := Scalar.muli v446 c1_i32_268
  let v450 : BitVec 32 := Scalar.addi c0_i32_269 v449
  v450.toNat
def k0_dev22 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_274 : BitVec 32 := 7#32
  let v459 : BitVec 32 := Scalar.addi v2 c7_i32_274
  let c16_i32_275 : BitVec 32 := 16#32
  let c0_i32_276 : BitVec 32 := 0#32
  let v460 : BitVec 1 := Scalar.cmpi .eq c16_i32_275 c0_i32_276
  let c1_i32_277 : BitVec 32 := 1#32
  let v461 : BitVec 32 := Scalar.select v460 c1_i32_277 c16_i32_275
  let v462 : BitVec 32 := Scalar.remsi v459 v461
  let c0_i32_279 : BitVec 32 := 0#32
  let v464 : BitVec 1 := Scalar.cmpi .slt v462 c0_i32_279
  let c0_i32_280 : BitVec 32 := 0#32
  let v465 : BitVec 1 := Scalar.cmpi .slt v461 c0_i32_280
  let v466 : BitVec 1 := Scalar.xori v464 v465
  let c0_i32_278 : BitVec 32 := 0#32
  let v463 : BitVec 1 := Scalar.cmpi .ne v462 c0_i32_278
  let v467 : BitVec 1 := Scalar.andi v466 v463
  let v468 : BitVec 32 := Scalar.addi v462 v461
  let v469 : BitVec 32 := Scalar.select v467 v468 v462
  let c1_i32_284 : BitVec 32 := 1#32
  let v472 : BitVec 32 := Scalar.muli v469 c1_i32_284
  let v473 : BitVec 32 := Scalar.addi c0_i32_285 v472
  v473.toNat
def k0_dev23 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_290 : BitVec 32 := 8#32
  let v482 : BitVec 32 := Scalar.addi v2 c8_i32_290
  let c16_i32_291 : BitVec 32 := 16#32
  let c0_i32_292 : BitVec 32 := 0#32
  let v483 : BitVec 1 := Scalar.cmpi .eq c16_i32_291 c0_i32_292
  let c1_i32_293 : BitVec 32 := 1#32
  let v484 : BitVec 32 := Scalar.select v483 c1_i32_293 c16_i32_291
  let v485 : BitVec 32 := Scalar.remsi v482 v484
  let c0_i32_295 : BitVec 32 := 0#32
  let v487 : BitVec 1 := Scalar.cmpi .slt v485 c0_i32_295
  let c0_i32_296 : BitVec 32 := 0#32
  let v488 : BitVec 1 := Scalar.cmpi .slt v484 c0_i32_296
  let v489 : BitVec 1 := Scalar.xori v487 v488
  let c0_i32_294 : BitVec 32 := 0#32
  let v486 : BitVec 1 := Scalar.cmpi .ne v485 c0_i32_294
  let v490 : BitVec 1 := Scalar.andi v489 v486
  let v491 : BitVec 32 := Scalar.addi v485 v484
  let v492 : BitVec 32 := Scalar.select v490 v491 v485
  let c1_i32_300 : BitVec 32 := 1#32
  let v495 : BitVec 32 := Scalar.muli v492 c1_i32_300
  let v496 : BitVec 32 := Scalar.addi c0_i32_301 v495
  v496.toNat
def k0_dev24 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_306 : BitVec 32 := 9#32
  let v505 : BitVec 32 := Scalar.addi v2 c9_i32_306
  let c16_i32_307 : BitVec 32 := 16#32
  let c0_i32_308 : BitVec 32 := 0#32
  let v506 : BitVec 1 := Scalar.cmpi .eq c16_i32_307 c0_i32_308
  let c1_i32_309 : BitVec 32 := 1#32
  let v507 : BitVec 32 := Scalar.select v506 c1_i32_309 c16_i32_307
  let v508 : BitVec 32 := Scalar.remsi v505 v507
  let c0_i32_311 : BitVec 32 := 0#32
  let v510 : BitVec 1 := Scalar.cmpi .slt v508 c0_i32_311
  let c0_i32_312 : BitVec 32 := 0#32
  let v511 : BitVec 1 := Scalar.cmpi .slt v507 c0_i32_312
  let v512 : BitVec 1 := Scalar.xori v510 v511
  let c0_i32_310 : BitVec 32 := 0#32
  let v509 : BitVec 1 := Scalar.cmpi .ne v508 c0_i32_310
  let v513 : BitVec 1 := Scalar.andi v512 v509
  let v514 : BitVec 32 := Scalar.addi v508 v507
  let v515 : BitVec 32 := Scalar.select v513 v514 v508
  let c1_i32_316 : BitVec 32 := 1#32
  let v518 : BitVec 32 := Scalar.muli v515 c1_i32_316
  let v519 : BitVec 32 := Scalar.addi c0_i32_317 v518
  v519.toNat
def k0_dev25 (d0 : Dev nD) : Nat :=
  let c0_i32_333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_322 : BitVec 32 := 10#32
  let v528 : BitVec 32 := Scalar.addi v2 c10_i32_322
  let c16_i32_323 : BitVec 32 := 16#32
  let c0_i32_324 : BitVec 32 := 0#32
  let v529 : BitVec 1 := Scalar.cmpi .eq c16_i32_323 c0_i32_324
  let c1_i32_325 : BitVec 32 := 1#32
  let v530 : BitVec 32 := Scalar.select v529 c1_i32_325 c16_i32_323
  let v531 : BitVec 32 := Scalar.remsi v528 v530
  let c0_i32_327 : BitVec 32 := 0#32
  let v533 : BitVec 1 := Scalar.cmpi .slt v531 c0_i32_327
  let c0_i32_328 : BitVec 32 := 0#32
  let v534 : BitVec 1 := Scalar.cmpi .slt v530 c0_i32_328
  let v535 : BitVec 1 := Scalar.xori v533 v534
  let c0_i32_326 : BitVec 32 := 0#32
  let v532 : BitVec 1 := Scalar.cmpi .ne v531 c0_i32_326
  let v536 : BitVec 1 := Scalar.andi v535 v532
  let v537 : BitVec 32 := Scalar.addi v531 v530
  let v538 : BitVec 32 := Scalar.select v536 v537 v531
  let c1_i32_332 : BitVec 32 := 1#32
  let v541 : BitVec 32 := Scalar.muli v538 c1_i32_332
  let v542 : BitVec 32 := Scalar.addi c0_i32_333 v541
  v542.toNat
def k0_dev26 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_338 : BitVec 32 := 11#32
  let v551 : BitVec 32 := Scalar.addi v2 c11_i32_338
  let c16_i32_339 : BitVec 32 := 16#32
  let c0_i32_340 : BitVec 32 := 0#32
  let v552 : BitVec 1 := Scalar.cmpi .eq c16_i32_339 c0_i32_340
  let c1_i32_341 : BitVec 32 := 1#32
  let v553 : BitVec 32 := Scalar.select v552 c1_i32_341 c16_i32_339
  let v554 : BitVec 32 := Scalar.remsi v551 v553
  let c0_i32_343 : BitVec 32 := 0#32
  let v556 : BitVec 1 := Scalar.cmpi .slt v554 c0_i32_343
  let c0_i32_344 : BitVec 32 := 0#32
  let v557 : BitVec 1 := Scalar.cmpi .slt v553 c0_i32_344
  let v558 : BitVec 1 := Scalar.xori v556 v557
  let c0_i32_342 : BitVec 32 := 0#32
  let v555 : BitVec 1 := Scalar.cmpi .ne v554 c0_i32_342
  let v559 : BitVec 1 := Scalar.andi v558 v555
  let v560 : BitVec 32 := Scalar.addi v554 v553
  let v561 : BitVec 32 := Scalar.select v559 v560 v554
  let c1_i32_348 : BitVec 32 := 1#32
  let v564 : BitVec 32 := Scalar.muli v561 c1_i32_348
  let v565 : BitVec 32 := Scalar.addi c0_i32_349 v564
  v565.toNat
def k0_dev27 (d0 : Dev nD) : Nat :=
  let c0_i32_365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_354 : BitVec 32 := 12#32
  let v574 : BitVec 32 := Scalar.addi v2 c12_i32_354
  let c16_i32_355 : BitVec 32 := 16#32
  let c0_i32_356 : BitVec 32 := 0#32
  let v575 : BitVec 1 := Scalar.cmpi .eq c16_i32_355 c0_i32_356
  let c1_i32_357 : BitVec 32 := 1#32
  let v576 : BitVec 32 := Scalar.select v575 c1_i32_357 c16_i32_355
  let v577 : BitVec 32 := Scalar.remsi v574 v576
  let c0_i32_359 : BitVec 32 := 0#32
  let v579 : BitVec 1 := Scalar.cmpi .slt v577 c0_i32_359
  let c0_i32_360 : BitVec 32 := 0#32
  let v580 : BitVec 1 := Scalar.cmpi .slt v576 c0_i32_360
  let v581 : BitVec 1 := Scalar.xori v579 v580
  let c0_i32_358 : BitVec 32 := 0#32
  let v578 : BitVec 1 := Scalar.cmpi .ne v577 c0_i32_358
  let v582 : BitVec 1 := Scalar.andi v581 v578
  let v583 : BitVec 32 := Scalar.addi v577 v576
  let v584 : BitVec 32 := Scalar.select v582 v583 v577
  let c1_i32_364 : BitVec 32 := 1#32
  let v587 : BitVec 32 := Scalar.muli v584 c1_i32_364
  let v588 : BitVec 32 := Scalar.addi c0_i32_365 v587
  v588.toNat
def k0_dev28 (d0 : Dev nD) : Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_370 : BitVec 32 := 13#32
  let v597 : BitVec 32 := Scalar.addi v2 c13_i32_370
  let c16_i32_371 : BitVec 32 := 16#32
  let c0_i32_372 : BitVec 32 := 0#32
  let v598 : BitVec 1 := Scalar.cmpi .eq c16_i32_371 c0_i32_372
  let c1_i32_373 : BitVec 32 := 1#32
  let v599 : BitVec 32 := Scalar.select v598 c1_i32_373 c16_i32_371
  let v600 : BitVec 32 := Scalar.remsi v597 v599
  let c0_i32_375 : BitVec 32 := 0#32
  let v602 : BitVec 1 := Scalar.cmpi .slt v600 c0_i32_375
  let c0_i32_376 : BitVec 32 := 0#32
  let v603 : BitVec 1 := Scalar.cmpi .slt v599 c0_i32_376
  let v604 : BitVec 1 := Scalar.xori v602 v603
  let c0_i32_374 : BitVec 32 := 0#32
  let v601 : BitVec 1 := Scalar.cmpi .ne v600 c0_i32_374
  let v605 : BitVec 1 := Scalar.andi v604 v601
  let v606 : BitVec 32 := Scalar.addi v600 v599
  let v607 : BitVec 32 := Scalar.select v605 v606 v600
  let c1_i32_380 : BitVec 32 := 1#32
  let v610 : BitVec 32 := Scalar.muli v607 c1_i32_380
  let v611 : BitVec 32 := Scalar.addi c0_i32_381 v610
  v611.toNat
def k0_dev29 (d0 : Dev nD) : Nat :=
  let c0_i32_397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_386 : BitVec 32 := 14#32
  let v620 : BitVec 32 := Scalar.addi v2 c14_i32_386
  let c16_i32_387 : BitVec 32 := 16#32
  let c0_i32_388 : BitVec 32 := 0#32
  let v621 : BitVec 1 := Scalar.cmpi .eq c16_i32_387 c0_i32_388
  let c1_i32_389 : BitVec 32 := 1#32
  let v622 : BitVec 32 := Scalar.select v621 c1_i32_389 c16_i32_387
  let v623 : BitVec 32 := Scalar.remsi v620 v622
  let c0_i32_391 : BitVec 32 := 0#32
  let v625 : BitVec 1 := Scalar.cmpi .slt v623 c0_i32_391
  let c0_i32_392 : BitVec 32 := 0#32
  let v626 : BitVec 1 := Scalar.cmpi .slt v622 c0_i32_392
  let v627 : BitVec 1 := Scalar.xori v625 v626
  let c0_i32_390 : BitVec 32 := 0#32
  let v624 : BitVec 1 := Scalar.cmpi .ne v623 c0_i32_390
  let v628 : BitVec 1 := Scalar.andi v627 v624
  let v629 : BitVec 32 := Scalar.addi v623 v622
  let v630 : BitVec 32 := Scalar.select v628 v629 v623
  let c1_i32_396 : BitVec 32 := 1#32
  let v633 : BitVec 32 := Scalar.muli v630 c1_i32_396
  let v634 : BitVec 32 := Scalar.addi c0_i32_397 v633
  v634.toNat
def k0_dev30 (d0 : Dev nD) : Nat :=
  let c0_i32_413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_402 : BitVec 32 := 15#32
  let v643 : BitVec 32 := Scalar.addi v2 c15_i32_402
  let c16_i32_403 : BitVec 32 := 16#32
  let c0_i32_404 : BitVec 32 := 0#32
  let v644 : BitVec 1 := Scalar.cmpi .eq c16_i32_403 c0_i32_404
  let c1_i32_405 : BitVec 32 := 1#32
  let v645 : BitVec 32 := Scalar.select v644 c1_i32_405 c16_i32_403
  let v646 : BitVec 32 := Scalar.remsi v643 v645
  let c0_i32_407 : BitVec 32 := 0#32
  let v648 : BitVec 1 := Scalar.cmpi .slt v646 c0_i32_407
  let c0_i32_408 : BitVec 32 := 0#32
  let v649 : BitVec 1 := Scalar.cmpi .slt v645 c0_i32_408
  let v650 : BitVec 1 := Scalar.xori v648 v649
  let c0_i32_406 : BitVec 32 := 0#32
  let v647 : BitVec 1 := Scalar.cmpi .ne v646 c0_i32_406
  let v651 : BitVec 1 := Scalar.andi v650 v647
  let v652 : BitVec 32 := Scalar.addi v646 v645
  let v653 : BitVec 32 := Scalar.select v651 v652 v646
  let c1_i32_412 : BitVec 32 := 1#32
  let v656 : BitVec 32 := Scalar.muli v653 c1_i32_412
  let v657 : BitVec 32 := Scalar.addi c0_i32_413 v656
  v657.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v666 : BitVec 32 := Scalar.muli v2 c32_i32
  let v667 : Index := Scalar.indexCast v666
  let c0_418 : Index := 0#32
  ![v667.toNat, 0]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v675 : Index := Scalar.indexCast v2
  let c0_422 : Index := 0#32
  let c0_423 : Index := 0#32
  ![v675.toNat, 0, 0]
def k0_off7 (d0 : Dev nD) (c1_i32_424 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v680 : BitVec 32 := Scalar.addi v2 c1_i32_424
  let c16_i32_425 : BitVec 32 := 16#32
  let c0_i32_426 : BitVec 32 := 0#32
  let v681 : BitVec 1 := Scalar.cmpi .eq c16_i32_425 c0_i32_426
  let c1_i32_427 : BitVec 32 := 1#32
  let v682 : BitVec 32 := Scalar.select v681 c1_i32_427 c16_i32_425
  let v683 : BitVec 32 := Scalar.remsi v680 v682
  let c0_i32_429 : BitVec 32 := 0#32
  let v685 : BitVec 1 := Scalar.cmpi .slt v683 c0_i32_429
  let c0_i32_430 : BitVec 32 := 0#32
  let v686 : BitVec 1 := Scalar.cmpi .slt v682 c0_i32_430
  let v687 : BitVec 1 := Scalar.xori v685 v686
  let c0_i32_428 : BitVec 32 := 0#32
  let v684 : BitVec 1 := Scalar.cmpi .ne v683 c0_i32_428
  let v688 : BitVec 1 := Scalar.andi v687 v684
  let v689 : BitVec 32 := Scalar.addi v683 v682
  let v690 : BitVec 32 := Scalar.select v688 v689 v683
  let v699 : Index := Scalar.indexCast v690
  let c0_438 : Index := 0#32
  let c0_439 : Index := 0#32
  ![v699.toNat, 0, 0]
def k0_dev31 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_666 : BitVec 32 := 1#32
  let v1044 : BitVec 32 := Scalar.addi v2 c1_i32_666
  let c16_i32_667 : BitVec 32 := 16#32
  let c0_i32_668 : BitVec 32 := 0#32
  let v1045 : BitVec 1 := Scalar.cmpi .eq c16_i32_667 c0_i32_668
  let c1_i32_669 : BitVec 32 := 1#32
  let v1046 : BitVec 32 := Scalar.select v1045 c1_i32_669 c16_i32_667
  let v1047 : BitVec 32 := Scalar.remsi v1044 v1046
  let c0_i32_671 : BitVec 32 := 0#32
  let v1049 : BitVec 1 := Scalar.cmpi .slt v1047 c0_i32_671
  let c0_i32_672 : BitVec 32 := 0#32
  let v1050 : BitVec 1 := Scalar.cmpi .slt v1046 c0_i32_672
  let v1051 : BitVec 1 := Scalar.xori v1049 v1050
  let c0_i32_670 : BitVec 32 := 0#32
  let v1048 : BitVec 1 := Scalar.cmpi .ne v1047 c0_i32_670
  let v1052 : BitVec 1 := Scalar.andi v1051 v1048
  let v1053 : BitVec 32 := Scalar.addi v1047 v1046
  let v1054 : BitVec 32 := Scalar.select v1052 v1053 v1047
  let c1_i32_674 : BitVec 32 := 1#32
  let v1055 : BitVec 32 := Scalar.muli v1054 c1_i32_674
  let v1056 : BitVec 32 := Scalar.addi c0_i32_675 v1055
  v1056.toNat
def k0_dev32 (d0 : Dev nD) : Nat :=
  let c0_i32_687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_678 : BitVec 32 := 2#32
  let v1063 : BitVec 32 := Scalar.addi v2 c2_i32_678
  let c16_i32_679 : BitVec 32 := 16#32
  let c0_i32_680 : BitVec 32 := 0#32
  let v1064 : BitVec 1 := Scalar.cmpi .eq c16_i32_679 c0_i32_680
  let c1_i32_681 : BitVec 32 := 1#32
  let v1065 : BitVec 32 := Scalar.select v1064 c1_i32_681 c16_i32_679
  let v1066 : BitVec 32 := Scalar.remsi v1063 v1065
  let c0_i32_683 : BitVec 32 := 0#32
  let v1068 : BitVec 1 := Scalar.cmpi .slt v1066 c0_i32_683
  let c0_i32_684 : BitVec 32 := 0#32
  let v1069 : BitVec 1 := Scalar.cmpi .slt v1065 c0_i32_684
  let v1070 : BitVec 1 := Scalar.xori v1068 v1069
  let c0_i32_682 : BitVec 32 := 0#32
  let v1067 : BitVec 1 := Scalar.cmpi .ne v1066 c0_i32_682
  let v1071 : BitVec 1 := Scalar.andi v1070 v1067
  let v1072 : BitVec 32 := Scalar.addi v1066 v1065
  let v1073 : BitVec 32 := Scalar.select v1071 v1072 v1066
  let c1_i32_686 : BitVec 32 := 1#32
  let v1074 : BitVec 32 := Scalar.muli v1073 c1_i32_686
  let v1075 : BitVec 32 := Scalar.addi c0_i32_687 v1074
  v1075.toNat
def k0_dev33 (d0 : Dev nD) : Nat :=
  let c0_i32_699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_690 : BitVec 32 := 3#32
  let v1082 : BitVec 32 := Scalar.addi v2 c3_i32_690
  let c16_i32_691 : BitVec 32 := 16#32
  let c0_i32_692 : BitVec 32 := 0#32
  let v1083 : BitVec 1 := Scalar.cmpi .eq c16_i32_691 c0_i32_692
  let c1_i32_693 : BitVec 32 := 1#32
  let v1084 : BitVec 32 := Scalar.select v1083 c1_i32_693 c16_i32_691
  let v1085 : BitVec 32 := Scalar.remsi v1082 v1084
  let c0_i32_695 : BitVec 32 := 0#32
  let v1087 : BitVec 1 := Scalar.cmpi .slt v1085 c0_i32_695
  let c0_i32_696 : BitVec 32 := 0#32
  let v1088 : BitVec 1 := Scalar.cmpi .slt v1084 c0_i32_696
  let v1089 : BitVec 1 := Scalar.xori v1087 v1088
  let c0_i32_694 : BitVec 32 := 0#32
  let v1086 : BitVec 1 := Scalar.cmpi .ne v1085 c0_i32_694
  let v1090 : BitVec 1 := Scalar.andi v1089 v1086
  let v1091 : BitVec 32 := Scalar.addi v1085 v1084
  let v1092 : BitVec 32 := Scalar.select v1090 v1091 v1085
  let c1_i32_698 : BitVec 32 := 1#32
  let v1093 : BitVec 32 := Scalar.muli v1092 c1_i32_698
  let v1094 : BitVec 32 := Scalar.addi c0_i32_699 v1093
  v1094.toNat
def k0_dev34 (d0 : Dev nD) : Nat :=
  let c0_i32_711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_702 : BitVec 32 := 4#32
  let v1101 : BitVec 32 := Scalar.addi v2 c4_i32_702
  let c16_i32_703 : BitVec 32 := 16#32
  let c0_i32_704 : BitVec 32 := 0#32
  let v1102 : BitVec 1 := Scalar.cmpi .eq c16_i32_703 c0_i32_704
  let c1_i32_705 : BitVec 32 := 1#32
  let v1103 : BitVec 32 := Scalar.select v1102 c1_i32_705 c16_i32_703
  let v1104 : BitVec 32 := Scalar.remsi v1101 v1103
  let c0_i32_707 : BitVec 32 := 0#32
  let v1106 : BitVec 1 := Scalar.cmpi .slt v1104 c0_i32_707
  let c0_i32_708 : BitVec 32 := 0#32
  let v1107 : BitVec 1 := Scalar.cmpi .slt v1103 c0_i32_708
  let v1108 : BitVec 1 := Scalar.xori v1106 v1107
  let c0_i32_706 : BitVec 32 := 0#32
  let v1105 : BitVec 1 := Scalar.cmpi .ne v1104 c0_i32_706
  let v1109 : BitVec 1 := Scalar.andi v1108 v1105
  let v1110 : BitVec 32 := Scalar.addi v1104 v1103
  let v1111 : BitVec 32 := Scalar.select v1109 v1110 v1104
  let c1_i32_710 : BitVec 32 := 1#32
  let v1112 : BitVec 32 := Scalar.muli v1111 c1_i32_710
  let v1113 : BitVec 32 := Scalar.addi c0_i32_711 v1112
  v1113.toNat
def k0_dev35 (d0 : Dev nD) : Nat :=
  let c0_i32_723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_714 : BitVec 32 := 5#32
  let v1120 : BitVec 32 := Scalar.addi v2 c5_i32_714
  let c16_i32_715 : BitVec 32 := 16#32
  let c0_i32_716 : BitVec 32 := 0#32
  let v1121 : BitVec 1 := Scalar.cmpi .eq c16_i32_715 c0_i32_716
  let c1_i32_717 : BitVec 32 := 1#32
  let v1122 : BitVec 32 := Scalar.select v1121 c1_i32_717 c16_i32_715
  let v1123 : BitVec 32 := Scalar.remsi v1120 v1122
  let c0_i32_719 : BitVec 32 := 0#32
  let v1125 : BitVec 1 := Scalar.cmpi .slt v1123 c0_i32_719
  let c0_i32_720 : BitVec 32 := 0#32
  let v1126 : BitVec 1 := Scalar.cmpi .slt v1122 c0_i32_720
  let v1127 : BitVec 1 := Scalar.xori v1125 v1126
  let c0_i32_718 : BitVec 32 := 0#32
  let v1124 : BitVec 1 := Scalar.cmpi .ne v1123 c0_i32_718
  let v1128 : BitVec 1 := Scalar.andi v1127 v1124
  let v1129 : BitVec 32 := Scalar.addi v1123 v1122
  let v1130 : BitVec 32 := Scalar.select v1128 v1129 v1123
  let c1_i32_722 : BitVec 32 := 1#32
  let v1131 : BitVec 32 := Scalar.muli v1130 c1_i32_722
  let v1132 : BitVec 32 := Scalar.addi c0_i32_723 v1131
  v1132.toNat
def k0_dev36 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_726 : BitVec 32 := 6#32
  let v1139 : BitVec 32 := Scalar.addi v2 c6_i32_726
  let c16_i32_727 : BitVec 32 := 16#32
  let c0_i32_728 : BitVec 32 := 0#32
  let v1140 : BitVec 1 := Scalar.cmpi .eq c16_i32_727 c0_i32_728
  let c1_i32_729 : BitVec 32 := 1#32
  let v1141 : BitVec 32 := Scalar.select v1140 c1_i32_729 c16_i32_727
  let v1142 : BitVec 32 := Scalar.remsi v1139 v1141
  let c0_i32_731 : BitVec 32 := 0#32
  let v1144 : BitVec 1 := Scalar.cmpi .slt v1142 c0_i32_731
  let c0_i32_732 : BitVec 32 := 0#32
  let v1145 : BitVec 1 := Scalar.cmpi .slt v1141 c0_i32_732
  let v1146 : BitVec 1 := Scalar.xori v1144 v1145
  let c0_i32_730 : BitVec 32 := 0#32
  let v1143 : BitVec 1 := Scalar.cmpi .ne v1142 c0_i32_730
  let v1147 : BitVec 1 := Scalar.andi v1146 v1143
  let v1148 : BitVec 32 := Scalar.addi v1142 v1141
  let v1149 : BitVec 32 := Scalar.select v1147 v1148 v1142
  let c1_i32_734 : BitVec 32 := 1#32
  let v1150 : BitVec 32 := Scalar.muli v1149 c1_i32_734
  let v1151 : BitVec 32 := Scalar.addi c0_i32_735 v1150
  v1151.toNat
def k0_dev37 (d0 : Dev nD) : Nat :=
  let c0_i32_747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_738 : BitVec 32 := 7#32
  let v1158 : BitVec 32 := Scalar.addi v2 c7_i32_738
  let c16_i32_739 : BitVec 32 := 16#32
  let c0_i32_740 : BitVec 32 := 0#32
  let v1159 : BitVec 1 := Scalar.cmpi .eq c16_i32_739 c0_i32_740
  let c1_i32_741 : BitVec 32 := 1#32
  let v1160 : BitVec 32 := Scalar.select v1159 c1_i32_741 c16_i32_739
  let v1161 : BitVec 32 := Scalar.remsi v1158 v1160
  let c0_i32_743 : BitVec 32 := 0#32
  let v1163 : BitVec 1 := Scalar.cmpi .slt v1161 c0_i32_743
  let c0_i32_744 : BitVec 32 := 0#32
  let v1164 : BitVec 1 := Scalar.cmpi .slt v1160 c0_i32_744
  let v1165 : BitVec 1 := Scalar.xori v1163 v1164
  let c0_i32_742 : BitVec 32 := 0#32
  let v1162 : BitVec 1 := Scalar.cmpi .ne v1161 c0_i32_742
  let v1166 : BitVec 1 := Scalar.andi v1165 v1162
  let v1167 : BitVec 32 := Scalar.addi v1161 v1160
  let v1168 : BitVec 32 := Scalar.select v1166 v1167 v1161
  let c1_i32_746 : BitVec 32 := 1#32
  let v1169 : BitVec 32 := Scalar.muli v1168 c1_i32_746
  let v1170 : BitVec 32 := Scalar.addi c0_i32_747 v1169
  v1170.toNat
def k0_dev38 (d0 : Dev nD) : Nat :=
  let c0_i32_759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_750 : BitVec 32 := 8#32
  let v1177 : BitVec 32 := Scalar.addi v2 c8_i32_750
  let c16_i32_751 : BitVec 32 := 16#32
  let c0_i32_752 : BitVec 32 := 0#32
  let v1178 : BitVec 1 := Scalar.cmpi .eq c16_i32_751 c0_i32_752
  let c1_i32_753 : BitVec 32 := 1#32
  let v1179 : BitVec 32 := Scalar.select v1178 c1_i32_753 c16_i32_751
  let v1180 : BitVec 32 := Scalar.remsi v1177 v1179
  let c0_i32_755 : BitVec 32 := 0#32
  let v1182 : BitVec 1 := Scalar.cmpi .slt v1180 c0_i32_755
  let c0_i32_756 : BitVec 32 := 0#32
  let v1183 : BitVec 1 := Scalar.cmpi .slt v1179 c0_i32_756
  let v1184 : BitVec 1 := Scalar.xori v1182 v1183
  let c0_i32_754 : BitVec 32 := 0#32
  let v1181 : BitVec 1 := Scalar.cmpi .ne v1180 c0_i32_754
  let v1185 : BitVec 1 := Scalar.andi v1184 v1181
  let v1186 : BitVec 32 := Scalar.addi v1180 v1179
  let v1187 : BitVec 32 := Scalar.select v1185 v1186 v1180
  let c1_i32_758 : BitVec 32 := 1#32
  let v1188 : BitVec 32 := Scalar.muli v1187 c1_i32_758
  let v1189 : BitVec 32 := Scalar.addi c0_i32_759 v1188
  v1189.toNat
def k0_dev39 (d0 : Dev nD) : Nat :=
  let c0_i32_771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_762 : BitVec 32 := 9#32
  let v1196 : BitVec 32 := Scalar.addi v2 c9_i32_762
  let c16_i32_763 : BitVec 32 := 16#32
  let c0_i32_764 : BitVec 32 := 0#32
  let v1197 : BitVec 1 := Scalar.cmpi .eq c16_i32_763 c0_i32_764
  let c1_i32_765 : BitVec 32 := 1#32
  let v1198 : BitVec 32 := Scalar.select v1197 c1_i32_765 c16_i32_763
  let v1199 : BitVec 32 := Scalar.remsi v1196 v1198
  let c0_i32_767 : BitVec 32 := 0#32
  let v1201 : BitVec 1 := Scalar.cmpi .slt v1199 c0_i32_767
  let c0_i32_768 : BitVec 32 := 0#32
  let v1202 : BitVec 1 := Scalar.cmpi .slt v1198 c0_i32_768
  let v1203 : BitVec 1 := Scalar.xori v1201 v1202
  let c0_i32_766 : BitVec 32 := 0#32
  let v1200 : BitVec 1 := Scalar.cmpi .ne v1199 c0_i32_766
  let v1204 : BitVec 1 := Scalar.andi v1203 v1200
  let v1205 : BitVec 32 := Scalar.addi v1199 v1198
  let v1206 : BitVec 32 := Scalar.select v1204 v1205 v1199
  let c1_i32_770 : BitVec 32 := 1#32
  let v1207 : BitVec 32 := Scalar.muli v1206 c1_i32_770
  let v1208 : BitVec 32 := Scalar.addi c0_i32_771 v1207
  v1208.toNat
def k0_dev40 (d0 : Dev nD) : Nat :=
  let c0_i32_783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_774 : BitVec 32 := 10#32
  let v1215 : BitVec 32 := Scalar.addi v2 c10_i32_774
  let c16_i32_775 : BitVec 32 := 16#32
  let c0_i32_776 : BitVec 32 := 0#32
  let v1216 : BitVec 1 := Scalar.cmpi .eq c16_i32_775 c0_i32_776
  let c1_i32_777 : BitVec 32 := 1#32
  let v1217 : BitVec 32 := Scalar.select v1216 c1_i32_777 c16_i32_775
  let v1218 : BitVec 32 := Scalar.remsi v1215 v1217
  let c0_i32_779 : BitVec 32 := 0#32
  let v1220 : BitVec 1 := Scalar.cmpi .slt v1218 c0_i32_779
  let c0_i32_780 : BitVec 32 := 0#32
  let v1221 : BitVec 1 := Scalar.cmpi .slt v1217 c0_i32_780
  let v1222 : BitVec 1 := Scalar.xori v1220 v1221
  let c0_i32_778 : BitVec 32 := 0#32
  let v1219 : BitVec 1 := Scalar.cmpi .ne v1218 c0_i32_778
  let v1223 : BitVec 1 := Scalar.andi v1222 v1219
  let v1224 : BitVec 32 := Scalar.addi v1218 v1217
  let v1225 : BitVec 32 := Scalar.select v1223 v1224 v1218
  let c1_i32_782 : BitVec 32 := 1#32
  let v1226 : BitVec 32 := Scalar.muli v1225 c1_i32_782
  let v1227 : BitVec 32 := Scalar.addi c0_i32_783 v1226
  v1227.toNat
def k0_dev41 (d0 : Dev nD) : Nat :=
  let c0_i32_795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_786 : BitVec 32 := 11#32
  let v1234 : BitVec 32 := Scalar.addi v2 c11_i32_786
  let c16_i32_787 : BitVec 32 := 16#32
  let c0_i32_788 : BitVec 32 := 0#32
  let v1235 : BitVec 1 := Scalar.cmpi .eq c16_i32_787 c0_i32_788
  let c1_i32_789 : BitVec 32 := 1#32
  let v1236 : BitVec 32 := Scalar.select v1235 c1_i32_789 c16_i32_787
  let v1237 : BitVec 32 := Scalar.remsi v1234 v1236
  let c0_i32_791 : BitVec 32 := 0#32
  let v1239 : BitVec 1 := Scalar.cmpi .slt v1237 c0_i32_791
  let c0_i32_792 : BitVec 32 := 0#32
  let v1240 : BitVec 1 := Scalar.cmpi .slt v1236 c0_i32_792
  let v1241 : BitVec 1 := Scalar.xori v1239 v1240
  let c0_i32_790 : BitVec 32 := 0#32
  let v1238 : BitVec 1 := Scalar.cmpi .ne v1237 c0_i32_790
  let v1242 : BitVec 1 := Scalar.andi v1241 v1238
  let v1243 : BitVec 32 := Scalar.addi v1237 v1236
  let v1244 : BitVec 32 := Scalar.select v1242 v1243 v1237
  let c1_i32_794 : BitVec 32 := 1#32
  let v1245 : BitVec 32 := Scalar.muli v1244 c1_i32_794
  let v1246 : BitVec 32 := Scalar.addi c0_i32_795 v1245
  v1246.toNat
def k0_dev42 (d0 : Dev nD) : Nat :=
  let c0_i32_807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_798 : BitVec 32 := 12#32
  let v1253 : BitVec 32 := Scalar.addi v2 c12_i32_798
  let c16_i32_799 : BitVec 32 := 16#32
  let c0_i32_800 : BitVec 32 := 0#32
  let v1254 : BitVec 1 := Scalar.cmpi .eq c16_i32_799 c0_i32_800
  let c1_i32_801 : BitVec 32 := 1#32
  let v1255 : BitVec 32 := Scalar.select v1254 c1_i32_801 c16_i32_799
  let v1256 : BitVec 32 := Scalar.remsi v1253 v1255
  let c0_i32_803 : BitVec 32 := 0#32
  let v1258 : BitVec 1 := Scalar.cmpi .slt v1256 c0_i32_803
  let c0_i32_804 : BitVec 32 := 0#32
  let v1259 : BitVec 1 := Scalar.cmpi .slt v1255 c0_i32_804
  let v1260 : BitVec 1 := Scalar.xori v1258 v1259
  let c0_i32_802 : BitVec 32 := 0#32
  let v1257 : BitVec 1 := Scalar.cmpi .ne v1256 c0_i32_802
  let v1261 : BitVec 1 := Scalar.andi v1260 v1257
  let v1262 : BitVec 32 := Scalar.addi v1256 v1255
  let v1263 : BitVec 32 := Scalar.select v1261 v1262 v1256
  let c1_i32_806 : BitVec 32 := 1#32
  let v1264 : BitVec 32 := Scalar.muli v1263 c1_i32_806
  let v1265 : BitVec 32 := Scalar.addi c0_i32_807 v1264
  v1265.toNat
def k0_dev43 (d0 : Dev nD) : Nat :=
  let c0_i32_819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_810 : BitVec 32 := 13#32
  let v1272 : BitVec 32 := Scalar.addi v2 c13_i32_810
  let c16_i32_811 : BitVec 32 := 16#32
  let c0_i32_812 : BitVec 32 := 0#32
  let v1273 : BitVec 1 := Scalar.cmpi .eq c16_i32_811 c0_i32_812
  let c1_i32_813 : BitVec 32 := 1#32
  let v1274 : BitVec 32 := Scalar.select v1273 c1_i32_813 c16_i32_811
  let v1275 : BitVec 32 := Scalar.remsi v1272 v1274
  let c0_i32_815 : BitVec 32 := 0#32
  let v1277 : BitVec 1 := Scalar.cmpi .slt v1275 c0_i32_815
  let c0_i32_816 : BitVec 32 := 0#32
  let v1278 : BitVec 1 := Scalar.cmpi .slt v1274 c0_i32_816
  let v1279 : BitVec 1 := Scalar.xori v1277 v1278
  let c0_i32_814 : BitVec 32 := 0#32
  let v1276 : BitVec 1 := Scalar.cmpi .ne v1275 c0_i32_814
  let v1280 : BitVec 1 := Scalar.andi v1279 v1276
  let v1281 : BitVec 32 := Scalar.addi v1275 v1274
  let v1282 : BitVec 32 := Scalar.select v1280 v1281 v1275
  let c1_i32_818 : BitVec 32 := 1#32
  let v1283 : BitVec 32 := Scalar.muli v1282 c1_i32_818
  let v1284 : BitVec 32 := Scalar.addi c0_i32_819 v1283
  v1284.toNat
def k0_dev44 (d0 : Dev nD) : Nat :=
  let c0_i32_831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_822 : BitVec 32 := 14#32
  let v1291 : BitVec 32 := Scalar.addi v2 c14_i32_822
  let c16_i32_823 : BitVec 32 := 16#32
  let c0_i32_824 : BitVec 32 := 0#32
  let v1292 : BitVec 1 := Scalar.cmpi .eq c16_i32_823 c0_i32_824
  let c1_i32_825 : BitVec 32 := 1#32
  let v1293 : BitVec 32 := Scalar.select v1292 c1_i32_825 c16_i32_823
  let v1294 : BitVec 32 := Scalar.remsi v1291 v1293
  let c0_i32_827 : BitVec 32 := 0#32
  let v1296 : BitVec 1 := Scalar.cmpi .slt v1294 c0_i32_827
  let c0_i32_828 : BitVec 32 := 0#32
  let v1297 : BitVec 1 := Scalar.cmpi .slt v1293 c0_i32_828
  let v1298 : BitVec 1 := Scalar.xori v1296 v1297
  let c0_i32_826 : BitVec 32 := 0#32
  let v1295 : BitVec 1 := Scalar.cmpi .ne v1294 c0_i32_826
  let v1299 : BitVec 1 := Scalar.andi v1298 v1295
  let v1300 : BitVec 32 := Scalar.addi v1294 v1293
  let v1301 : BitVec 32 := Scalar.select v1299 v1300 v1294
  let c1_i32_830 : BitVec 32 := 1#32
  let v1302 : BitVec 32 := Scalar.muli v1301 c1_i32_830
  let v1303 : BitVec 32 := Scalar.addi c0_i32_831 v1302
  v1303.toNat
def k0_dev45 (d0 : Dev nD) : Nat :=
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_834 : BitVec 32 := 15#32
  let v1310 : BitVec 32 := Scalar.addi v2 c15_i32_834
  let c16_i32_835 : BitVec 32 := 16#32
  let c0_i32_836 : BitVec 32 := 0#32
  let v1311 : BitVec 1 := Scalar.cmpi .eq c16_i32_835 c0_i32_836
  let c1_i32_837 : BitVec 32 := 1#32
  let v1312 : BitVec 32 := Scalar.select v1311 c1_i32_837 c16_i32_835
  let v1313 : BitVec 32 := Scalar.remsi v1310 v1312
  let c0_i32_839 : BitVec 32 := 0#32
  let v1315 : BitVec 1 := Scalar.cmpi .slt v1313 c0_i32_839
  let c0_i32_840 : BitVec 32 := 0#32
  let v1316 : BitVec 1 := Scalar.cmpi .slt v1312 c0_i32_840
  let v1317 : BitVec 1 := Scalar.xori v1315 v1316
  let c0_i32_838 : BitVec 32 := 0#32
  let v1314 : BitVec 1 := Scalar.cmpi .ne v1313 c0_i32_838
  let v1318 : BitVec 1 := Scalar.andi v1317 v1314
  let v1319 : BitVec 32 := Scalar.addi v1313 v1312
  let v1320 : BitVec 32 := Scalar.select v1318 v1319 v1313
  let c1_i32_842 : BitVec 32 := 1#32
  let v1321 : BitVec 32 := Scalar.muli v1320 c1_i32_842
  let v1322 : BitVec 32 := Scalar.addi c0_i32_843 v1321
  v1322.toNat
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1031 : BitVec 32 := 32#32
  let v1588 : BitVec 32 := Scalar.muli v2 c32_i32_1031
  let v1589 : Index := Scalar.indexCast v1588
  let c0_1032 : Index := 0#32
  ![v1589.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S256x512 : Shape := ⟨2, ![256, 512]⟩
abbrev S512x64 : Shape := ⟨2, ![512, 64]⟩
abbrev S_ : Shape := ⟨0, ![]⟩
abbrev S512 : Shape := ⟨1, ![512]⟩
abbrev S512x512 : Shape := ⟨2, ![512, 512]⟩
abbrev S512x1x1 : Shape := ⟨3, ![512, 1, 1]⟩
abbrev S512x256x512 : Shape := ⟨3, ![512, 256, 512]⟩

abbrev nBuf : Space → Nat
  | .hbm => 46
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x1, .i32⟩
  | .hbm, ⟨3, _⟩ => ⟨S64x256x512, .f32⟩
  | .hbm, ⟨4, _⟩ => ⟨S256x512, .f32⟩
  | .hbm, ⟨5, _⟩ => ⟨S512x64, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x64, .f32⟩
  | .hbm, ⟨10, _⟩ => ⟨S512x64, .f32⟩
  | .hbm, ⟨11, _⟩ => ⟨S512x64, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x64, .f32⟩
  | .hbm, ⟨16, _⟩ => ⟨S512x64, .f32⟩
  | .hbm, ⟨17, _⟩ => ⟨S512x512, .f32⟩
  | .hbm, ⟨18, _⟩ => ⟨S512, .i32⟩
  | .hbm, ⟨19, _⟩ => ⟨S_, .i32⟩
  | .hbm, ⟨20, _⟩ => ⟨S512x1, .i32⟩
  | .hbm, ⟨21, _⟩ => ⟨S512x1, .i1⟩
  | .hbm, ⟨22, _⟩ => ⟨S_, .i32⟩
  | .hbm, ⟨23, _⟩ => ⟨S512x1, .i32⟩
  | .hbm, ⟨24, _⟩ => ⟨S512x1, .i32⟩
  | .hbm, ⟨25, _⟩ => ⟨S512x1, .i32⟩
  | .hbm, ⟨26, _⟩ => ⟨S512x1x1, .i32⟩
  | .hbm, ⟨27, _⟩ => ⟨S512x1, .f32⟩
  | .hbm, ⟨28, _⟩ => ⟨S512x1, .i32⟩
  | .hbm, ⟨29, _⟩ => ⟨S512x256x512, .f32⟩
  | .hbm, ⟨30, _⟩ => ⟨S512x512, .f32⟩
  | .hbm, ⟨31, _⟩ => ⟨S_, .i32⟩
  | .hbm, ⟨32, _⟩ => ⟨S512x1, .i32⟩
  | .hbm, ⟨33, _⟩ => ⟨S512x1, .i1⟩
  | .hbm, ⟨34, _⟩ => ⟨S_, .i32⟩
  | .hbm, ⟨35, _⟩ => ⟨S512x1, .i32⟩
  | .hbm, ⟨36, _⟩ => ⟨S512x1, .i1⟩
  | .hbm, ⟨37, _⟩ => ⟨S512x1, .i1⟩
  | .hbm, ⟨38, _⟩ => ⟨S512x512, .f32⟩
  | .hbm, ⟨39, _⟩ => ⟨S512x512, .f32⟩
  | .hbm, ⟨40, _⟩ => ⟨S_, .f32⟩
  | .hbm, ⟨41, _⟩ => ⟨S_, .f32⟩
  | .hbm, ⟨42, _⟩ => ⟨S512x512, .i1⟩
  | .hbm, ⟨43, _⟩ => ⟨S512x512, .f32⟩
  | .hbm, ⟨44, _⟩ => ⟨S512x512, .f32⟩
  | .hbm, ⟨45, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_v12 : Ref sig .tc := ⟨.hbm, 27, rfl⟩
abbrev main_call1_v0 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v22 : Ref sig .tc := ⟨.hbm, 44, rfl⟩
abbrev main_v23 : Ref sig .tc := ⟨.hbm, 45, rfl⟩

abbrev nD : Nat := 1
abbrev τ : Topo := Topo.v7x

variable {F : FTy → Type} [FloatOps F]
-- ==== Proof.KernelIdeal.Phases.lean ====
/-
The kernel's body as a program of loops: six passes over the fifteen other devices, in the order the body
visits them, with the straight-line work between them. `body_eq_phases` says the printed body is that program.
-/
module

public import proofs.«01_k».proof.Proof.Gen.KernelIdeal.Skeleton
public import proofs.«01_k».proof.Proof.Gen.KernelIdeal.Points
public import Idealize.ShloMosaic.Lib.Pipeline.Kit

@[expose] public section

set_option synthInstance.maxSize 4096

noncomputable section

namespace Cert.KernelIdeal.Moe

open Cert.KernelIdeal.Gen
open Idealize.ShloMosaic Idealize.ShloMosaic.TcCoe
open Idealize.SL Idealize.SL.Sem

variable {F : FTy → Type} [FloatOps F]

/-- The requests the body makes. -/
abbrev BodyEff (F : FTy → Type) [FloatOps F] : Type → Type := TpuEff nD τ sig (Elt F) Λ₀ .tc

/-- The distance word the body adds to its own number at the `r`-th step of each pass. -/
abbrev wd (r : Fin 15) : BitVec 32 := BitVec.ofNat 32 (1 + r.val)

/-- Device `c`'s own slot of a sixteen-slot buffer. -/
abbrev mySlot (m : Memref sig .tc .vmem S16x32x512 .bf16) (c : Dev nD) : Memref sig .tc .vmem S32x512 .bf16 :=
  (m.slice (Rect.unit (s := S16x32x512) (k0_off3 c) S1x32x512.size (k0_off3_inb c)) (fun _ => rfl)).squeeze S32x512 squeezes_S1x32x512_S32x512
/-- The slot of the device visited at step `r`. -/
abbrev toSlot (m : Memref sig .tc .vmem S16x32x512 .bf16) (c : Dev nD) (r : Fin 15) : Memref sig .tc .vmem S32x512 .bf16 :=
  (m.slice (Rect.unit (s := S16x32x512) (k0_off4 c (wd r)) S1x32x512.size (k0_off4_inb c r)) (fun _ => rfl)).squeeze S32x512 squeezes_S1x32x512_S32x512

/-- The semaphore of a sixteen-entry DMA array at device `c`'s own number. -/
abbrev myDma (a : DmaSems sig S16) (c : Dev nD) : DmaSem sig :=
  ((a.slice (Rect.unit (s := S16) (k0_off1 c) S1.size (k0_off1_inb c))).squeeze S_ squeezes_S1_S_).sem
/-- The semaphore of a sixteen-entry DMA array at the number of the device visited at step `r`. -/
abbrev toDma (a : DmaSems sig S16) (c : Dev nD) (r : Fin 15) : DmaSem sig :=
  ((a.slice (Rect.unit (s := S16) (k0_off2 c (wd r)) S1.size (k0_off2_inb c r))).squeeze S_ squeezes_S1_S_).sem
/-- The entry numbered by the distance of step `r` lies in the array. -/
theorem distInb : ∀ r : Fin 15, ∀ a, (![1 + r.val] : Fin 1 → ℕ) a + S1.size a ≤ S16.size a := by decide
/-- The semaphore of a sixteen-entry DMA array at the distance of step `r`. -/
abbrev distDma (a : DmaSems sig S16) (r : Fin 15) : DmaSem sig :=
  ((a.slice (Rect.unit (s := S16) ![1 + r.val] S1.size (distInb r))).squeeze S_ squeezes_S1_S_).sem
/-- The `ready` semaphore at device `c`'s own number. -/
abbrev myReady (c : Dev nD) : Sem sig :=
  ((cc0_scratch8.slice (Rect.unit (s := S16) (k0_off1 c) S1.size (k0_off1_inb c))).squeeze S_ squeezes_S1_S_).sem
/-- The `ready` semaphore at the number of the device visited at step `r`. -/
abbrev toReady (c : Dev nD) (r : Fin 15) : Sem sig :=
  ((cc0_scratch8.slice (Rect.unit (s := S16) (k0_off2 c (wd r)) S1.size (k0_off2_inb c r))).squeeze S_ squeezes_S1_S_).sem
/-- The runtime's barrier semaphore. -/
abbrev barSem : Sem sig := (SemArray.scalar (sig.barrier 0 rfl) : Sems sig S_).sem

/-- The device the first pass signals at step `r`. -/
def dev1 (c : Dev nD) (r : Fin 15) : Dev nD := match r with
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩
  | 6 => ⟨k0_dev7 c, k0_dev7_lt c⟩
  | 7 => ⟨k0_dev8 c, k0_dev8_lt c⟩
  | 8 => ⟨k0_dev9 c, k0_dev9_lt c⟩
  | 9 => ⟨k0_dev10 c, k0_dev10_lt c⟩
  | 10 => ⟨k0_dev11 c, k0_dev11_lt c⟩
  | 11 => ⟨k0_dev12 c, k0_dev12_lt c⟩
  | 12 => ⟨k0_dev13 c, k0_dev13_lt c⟩
  | 13 => ⟨k0_dev14 c, k0_dev14_lt c⟩
  | 14 => ⟨k0_dev15 c, k0_dev15_lt c⟩
/-- The device the second pass sends to at step `r`. -/
def dev2 (c : Dev nD) (r : Fin 15) : Dev nD := match r with
  | 0 => ⟨k0_dev16 c, k0_dev16_lt c⟩
  | 1 => ⟨k0_dev17 c, k0_dev17_lt c⟩
  | 2 => ⟨k0_dev18 c, k0_dev18_lt c⟩
  | 3 => ⟨k0_dev19 c, k0_dev19_lt c⟩
  | 4 => ⟨k0_dev20 c, k0_dev20_lt c⟩
  | 5 => ⟨k0_dev21 c, k0_dev21_lt c⟩
  | 6 => ⟨k0_dev22 c, k0_dev22_lt c⟩
  | 7 => ⟨k0_dev23 c, k0_dev23_lt c⟩
  | 8 => ⟨k0_dev24 c, k0_dev24_lt c⟩
  | 9 => ⟨k0_dev25 c, k0_dev25_lt c⟩
  | 10 => ⟨k0_dev26 c, k0_dev26_lt c⟩
  | 11 => ⟨k0_dev27 c, k0_dev27_lt c⟩
  | 12 => ⟨k0_dev28 c, k0_dev28_lt c⟩
  | 13 => ⟨k0_dev29 c, k0_dev29_lt c⟩
  | 14 => ⟨k0_dev30 c, k0_dev30_lt c⟩
/-- The device the fourth pass sends to at step `r`. -/
def dev3 (c : Dev nD) (r : Fin 15) : Dev nD := match r with
  | 0 => ⟨k0_dev31 c, k0_dev31_lt c⟩
  | 1 => ⟨k0_dev32 c, k0_dev32_lt c⟩
  | 2 => ⟨k0_dev33 c, k0_dev33_lt c⟩
  | 3 => ⟨k0_dev34 c, k0_dev34_lt c⟩
  | 4 => ⟨k0_dev35 c, k0_dev35_lt c⟩
  | 5 => ⟨k0_dev36 c, k0_dev36_lt c⟩
  | 6 => ⟨k0_dev37 c, k0_dev37_lt c⟩
  | 7 => ⟨k0_dev38 c, k0_dev38_lt c⟩
  | 8 => ⟨k0_dev39 c, k0_dev39_lt c⟩
  | 9 => ⟨k0_dev40 c, k0_dev40_lt c⟩
  | 10 => ⟨k0_dev41 c, k0_dev41_lt c⟩
  | 11 => ⟨k0_dev42 c, k0_dev42_lt c⟩
  | 12 => ⟨k0_dev43 c, k0_dev43_lt c⟩
  | 13 => ⟨k0_dev44 c, k0_dev44_lt c⟩
  | 14 => ⟨k0_dev45 c, k0_dev45_lt c⟩

/-- Run `f` at each entry of a list, in order. -/
def each (f : Fin 15 → Prog (BodyEff F) PUnit) : List (Fin 15) → Prog (BodyEff F) PUnit
  | [] => .ret ⟨⟩
  | r :: l => f r >>= fun _ => each f l

/-- Run `f` at each entry of a list, in order, threading a value. -/
def eachWith {α : Type} (f : Fin 15 → α → Prog (BodyEff F) α) : List (Fin 15) → α → Prog (BodyEff F) α
  | [], a => .ret a
  | r :: l, a => f r a >>= fun b => eachWith f l b

/-- The fifteen steps. -/
abbrev steps : List (Fin 15) := [0, 1, 2, 3, 4, 5, 6, 7, 8, 9, 10, 11, 12, 13, 14]

/-- The partial sums. -/
abbrev b6 : Memref sig .tc .vmem S16x32x512 .bf16 := Memref.whole cc0_scratch0
/-- Where the other devices' partial rows arrive. -/
abbrev b7 : Memref sig .tc .vmem S16x32x512 .bf16 := Memref.whole cc0_scratch1
/-- The summed rows this device sends. -/
abbrev b8 : Memref sig .tc .vmem S32x512 .bf16 := Memref.whole cc0_scratch2
/-- Where the other devices' summed rows arrive. -/
abbrev b9 : Memref sig .tc .vmem S16x32x512 .bf16 := Memref.whole cc0_scratch3

/-- A whole buffer's own slot moves in whole words. -/
theorem mySlot_exact (m : Memref sig .tc .vmem S16x32x512 .bf16) (hm : m.IsWhole) (c : Dev nD) : (mySlot m c).view.WordExact :=
  (hm.wordExact_slice rfl _ (k0_off3_wordsbf16 c)).reshape _ _
/-- A whole buffer's slot of the device at step `r` moves in whole words. -/
theorem toSlot_exact (m : Memref sig .tc .vmem S16x32x512 .bf16) (hm : m.IsWhole) (c : Dev nD) (r : Fin 15) : (toSlot m c r).view.WordExact :=
  (hm.wordExact_slice rfl _ (k0_off4_wordsbf16 c r)).reshape _ _

/-- First pass, one step: tell the device at step `r` that this one is ready. -/
def opReady (c : Dev nD) (r : Fin 15) : Prog (BodyEff F) PUnit := semSignalWord (dev1 c r) (myReady c) 1#32
/-- Second pass, one step: wait until the device at step `r` is ready, then send it its rows of the partial sum. -/
def opSend (c : Dev nD) (r : Fin 15) : Prog (BodyEff F) PUnit := do
  semWaitWord (toReady c r) 1#32
  Prog.lift (.enqueueDma (toSlot b6 c r) (.remote (Dev.tc (dev2 c r)) (mySlot b7 c) (.dma (distDma cc0_scratch4 r))) (.dma (myDma cc0_scratch5 c))
    (toSlot_exact _ (Memref.isWhole_whole _) c r) (mySlot_exact _ (Memref.isWhole_whole _) c) ⟨⟨rfl, Or.inl rfl⟩, trivial⟩)
/-- Third pass, one step: wait for the rows of the device at step `r` and add them in. -/
def opRecv (c : Dev nD) (r : Fin 15) (acc : FVec F S32x512 .f32) : Prog (BodyEff F) (FVec F S32x512 .f32) := do
  Prog.lift (.waitDma2 (toDma cc0_scratch5 c r) (toSlot b6 c r) (toSlot b7 c r) (toSlot_exact _ (Memref.isWhole_whole _) c r) (toSlot_exact _ (Memref.isWhole_whole _) c r))
  let v ← Prog.lift (.load b7 (Rect.unit (s := S16x32x512) (k0_off7 c (wd r)) S1x32x512.size (k0_off7_inb c r)).toLoadRect (View.loadsAt_vmem h_S1x32x512))
  .ret (k0_pay12 acc v)
/-- Fourth pass, one step: send the summed rows to the device at step `r`. -/
def opBcast (c : Dev nD) (r : Fin 15) : Prog (BodyEff F) PUnit :=
  Prog.lift (.enqueueDma b8 (.remote (Dev.tc (dev3 c r)) (mySlot b9 c) (.dma (distDma cc0_scratch6 r))) (.dma (myDma cc0_scratch7 c))
    (Memref.isWhole_whole _).wordExact (mySlot_exact _ (Memref.isWhole_whole _) c) ⟨⟨rfl, Or.inl rfl⟩, trivial⟩)
/-- Fifth pass, one step: wait for the summed rows of the device at step `r`. -/
def opGather (c : Dev nD) (r : Fin 15) : Prog (BodyEff F) PUnit :=
  Prog.lift (.waitDma2 (toDma cc0_scratch7 c r) b8 (toSlot b9 c r) (Memref.isWhole_whole _).wordExact (toSlot_exact _ (Memref.isWhole_whole _) c r))
/-- Sixth pass, one step: wait until both of this device's own transfers of step `r` have left. -/
def opDone (c : Dev nD) (r : Fin 15) : Prog (BodyEff F) PUnit := do
  Prog.lift (.waitDma2 (distDma cc0_scratch4 r) (mySlot b7 c) (toSlot b6 c r) (mySlot_exact _ (Memref.isWhole_whole _) c) (toSlot_exact _ (Memref.isWhole_whole _) c r))
  Prog.lift (.waitDma2 (distDma cc0_scratch6 r) (mySlot b9 c) b8 (mySlot_exact _ (Memref.isWhole_whole _) c) (Memref.isWhole_whole _).wordExact)

/-- The device's own number, as the word the body computes. -/
abbrev myWord (c : Dev nD) : BitVec 32 := Scalar.remsi (Scalar.divsi (Dev.word c) 1#32) 16#32

/-- The partial sum the body stores: over the device's four experts, the gated tokens through that expert, cut in
    sixteen slots of thirty-two rows. -/
def partialOf (c : Dev nD) (x : Vec F S512x256 .f32) (rw : Vec F S256x64 .f32) (ix : Vec F S512x1 .i32) (e0 e1 e2 e3 : Vec F S1x256x512 .f32) :
    FVec F S16x32x512 .bf16 :=
  k0_pay9 (myWord c) (iota .tc S512x64 32 [1] iota_S512x64_d1_w32) (k0_pay4 (k0_pay2 x rw) (k0_pay3 x rw) ix) (k0_pay5 (k0_pay1 x))
    (k0_pay6 (myWord c) (k0_pay1 x) (k0_pay2 x rw) (k0_pay3 x rw) ix e0) (k0_pay7 (myWord c) (k0_pay1 x) (k0_pay2 x rw) (k0_pay3 x rw) ix)
    (k0_pay8 e1) e2 e3
/-- The summed rows as they are sent. -/
def bcastOf (acc : FVec F S32x512 .f32) : FVec F S32x512 .bf16 :=
  shapeCast S32x512 (truncf .bf16 acc bitsLt_bf16_f32) shapeCasts_S32x512_S32x512

/-- The body as passes over the other devices. -/
def phases (a0 : Memref sig .tc .vmem S512x256 .f32) (a1 : Memref sig .tc .vmem S256x64 .f32) (a2 : Memref sig .tc .vmem S512x1 .i32)
    (a3 : Memref sig .tc .vmem S4x256x512 .f32) (a4 : Memref sig .tc .vmem S256x512 .f32) (a5 : Memref sig .tc .vmem S512x512 .f32) : Prog (BodyEff F) PUnit := do
  let c : Dev nD ← Prog.lift .deviceId
  each (opReady c) steps
  semSignalHereWord barSem 1#32
  semWaitWord barSem 1#32
  let x : Vec F S512x256 .f32 ← Prog.lift (.load a0 (Rect.unit (s := S512x256) ![0, 0] S512x256.size inb_S512x256_S512x256_0_0).toLoadRect (View.loadsAt_vmem h_S512x256))
  let rw : Vec F S256x64 .f32 ← Prog.lift (.load a1 (Rect.unit (s := S256x64) ![0, 0] S256x64.size inb_S256x64_S256x64_0_0).toLoadRect (View.loadsAt_vmem h_S256x64))
  let ix : Vec F S512x1 .i32 ← Prog.lift (.load a2 (Rect.unit (s := S512x1) ![0, 0] S512x1.size inb_S512x1_S512x1_0_0).toLoadRect (View.loadsAt_vmem h_S512x1))
  let e0 : Vec F S1x256x512 .f32 ← Prog.lift (.load a3 (Rect.unit (s := S4x256x512) ![0, 0, 0] S1x256x512.size inb_S4x256x512_S1x256x512_0_0_0).toLoadRect (View.loadsAt_vmem h_S1x256x512))
  let e1 : Vec F S1x256x512 .f32 ← Prog.lift (.load a3 (Rect.unit (s := S4x256x512) ![1, 0, 0] S1x256x512.size inb_S4x256x512_S1x256x512_1_0_0).toLoadRect (View.loadsAt_vmem h_S1x256x512))
  let e2 : Vec F S1x256x512 .f32 ← Prog.lift (.load a3 (Rect.unit (s := S4x256x512) ![2, 0, 0] S1x256x512.size inb_S4x256x512_S1x256x512_2_0_0).toLoadRect (View.loadsAt_vmem h_S1x256x512))
  let e3 : Vec F S1x256x512 .f32 ← Prog.lift (.load a3 (Rect.unit (s := S4x256x512) ![3, 0, 0] S1x256x512.size inb_S4x256x512_S1x256x512_3_0_0).toLoadRect (View.loadsAt_vmem h_S1x256x512))
  let _ ← Prog.lift (.load b6 (Rect.unit (s := S16x32x512) ![0, 0, 0] S16x32x512.size inb_S16x32x512_S16x32x512_0_0_0).toLoadRect (View.loadsAt_vmem h_S16x32x512))
  Prog.lift (.store b6 (Rect.unit (s := S16x32x512) ![0, 0, 0] S16x32x512.size inb_S16x32x512_S16x32x512_0_0_0) (partialOf c x rw ix e0 e1 e2 e3) Finset.univ
    (View.stores_vmem h_S16x32x512 ((Memref.isWhole_whole _).storeExact_slice rfl _ packedbf16_S16x32x512_S16x32x512_0_0_0) (fun _ => rfl)) (.inl rfl))
  each (opSend c) steps
  let xs : Vec F S32x256 .f32 ← Prog.lift (.load a0 (Rect.unit (s := S512x256) (k0_off5 c) S32x256.size (k0_off5_inb c)).toLoadRect (View.loadsAt_vmem h_S32x256))
  let sw : Vec F S256x512 .f32 ← Prog.lift (.load a4 (Rect.unit (s := S256x512) ![0, 0] S256x512.size inb_S256x512_S256x512_0_0).toLoadRect (View.loadsAt_vmem h_S256x512))
  let own : Vec F S1x32x512 .bf16 ← Prog.lift (.load b6 (Rect.unit (s := S16x32x512) (k0_off6 c) S1x32x512.size (k0_off6_inb c)).toLoadRect (View.loadsAt_vmem h_S1x32x512))
  let acc ← eachWith (opRecv c) steps (k0_pay10 xs sw own)
  let _ ← Prog.lift (.load b8 (Rect.unit (s := S32x512) ![0, 0] S32x512.size inb_S32x512_S32x512_0_0).toLoadRect (View.loadsAt_vmem h_S32x512))
  Prog.lift (.store b8 (Rect.unit (s := S32x512) ![0, 0] S32x512.size inb_S32x512_S32x512_0_0) (bcastOf acc) Finset.univ
    (View.stores_vmem h_S32x512 ((Memref.isWhole_whole _).storeExact_slice rfl _ packedbf16_S32x512_S32x512_0_0) (fun _ => rfl)) (.inl rfl))
  each (opBcast c) steps
  each (opGather c) steps
  let all : Vec F S16x32x512 .bf16 ← Prog.lift (.load b9 (Rect.unit (s := S16x32x512) ![0, 0, 0] S16x32x512.size inb_S16x32x512_S16x32x512_0_0_0).toLoadRect (View.loadsAt_vmem h_S16x32x512))
  let _ ← Prog.lift (.load a5 (Rect.unit (s := S512x512) ![0, 0] S512x512.size inb_S512x512_S512x512_0_0).toLoadRect (View.loadsAt_vmem h_S512x512))
  Prog.lift (.store a5 (Rect.unit (s := S512x512) ![0, 0] S512x512.size inb_S512x512_S512x512_0_0) (k0_pay23 all) Finset.univ (View.stores_vmem_bits_univ h_S512x512 rfl) (.inl rfl))
  let _ ← Prog.lift (.load a5 (Rect.unit (s := S512x512) (k0_off8 c) S32x512.size (k0_off8_inb c)).toLoadRect (View.loadsAt_vmem h_S32x512))
  Prog.lift (.store a5 (Rect.unit (s := S512x512) (k0_off8 c) S32x512.size (k0_off8_inb c)) acc Finset.univ (View.stores_vmem_bits_univ h_S32x512 rfl) (.inl rfl))
  each (opDone c) steps

set_option maxRecDepth 65536 in
set_option maxHeartbeats 4000000 in
/-- The printed body, at whole staging buffers, is the program of passes. -/
theorem body_eq_phases (a0 : Memref sig .tc .vmem S512x256 .f32) (h0 : a0.IsWhole) (a1 : Memref sig .tc .vmem S256x64 .f32) (h1 : a1.IsWhole)
    (a2 : Memref sig .tc .vmem S512x1 .i32) (h2 : a2.IsWhole) (a3 : Memref sig .tc .vmem S4x256x512 .f32) (h3 : a3.IsWhole)
    (a4 : Memref sig .tc .vmem S256x512 .f32) (h4 : a4.IsWhole) (a5 : Memref sig .tc .vmem S512x512 .f32) (h5 : a5.IsWhole) :
    (cc0_body a0 h0 a1 h1 a2 h2 a3 h3 a4 h4 a5 h5 (Memref.whole cc0_scratch0) (Memref.isWhole_whole _) (Memref.whole cc0_scratch1) (Memref.isWhole_whole _)
      (Memref.whole cc0_scratch2) (Memref.isWhole_whole _) (Memref.whole cc0_scratch3) (Memref.isWhole_whole _) cc0_scratch4 cc0_scratch5 cc0_scratch6 cc0_scratch7
      cc0_scratch8 : Prog (BodyEff F) PUnit) = phases a0 a1 a2 a3 a4 a5 := by
  rw [cc0_body_eq_skeleton]
  rfl

end Cert.KernelIdeal.Moe

end
-- ==== Proof.KernelIdeal.Protocol.lean ====
/-
The protocol of the kernel's sixteen devices: which semaphore cells they share, what each signal and each transfer
hands over, what a device owes the others when it starts, and in which order the waits are ranked.

Every device numbers the others by the distance `o` to them on the ring of sixteen. Five kinds of cells, one of each
kind per distance: `0` the ready signal, `1` and `2` the arrivals of the partial and the summed rows, `3` and `4` the
departures of this device's own two transfers. At distance zero nothing is ever signalled.
-/
module

public import proofs.«01_k».proof.Proof.KernelIdeal.Phases
public import proofs.«01_k».proof.Proof.Gen.KernelIdeal.Frame
public import Idealize.ShloMosaic.Lib.Pipeline.Launch
public import Idealize.ShloMosaic.Lib.Pipeline.Kit
public import Idealize.ShloMosaic.Lib.ShareLeaves
public import Idealize.ShloMosaic.Lib.Memref
public import Idealize.ShloMosaic.Lib.ValueLayout
public import Idealize.ShloMosaic.Lib.ViewIndex
public import Idealize.ShloMosaic.Lib.Tactic

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The ghost state: the pipeline's cells beside the protocol's. -/
abbrev UU : Type := UR sig nD τ × UR sig nD τ

local notation "𝕄" => MT nD τ sig Unit (Elt F) ℕ UU ℕ

/-- The pipeline's part of the ghost state. -/
abbrev EP : Emb (UR sig nD τ) (MT nD τ sig Unit (Elt F) ℕ UU ℕ) := embL
/-- The protocol's part of the ghost state. -/
abbrev ER : Emb (UR sig nD τ) (MT nD τ sig Unit (Elt F) ℕ UU ℕ) := embR

variable (m : (ℓ : Loc nD τ sig) → Buf (Elt F) ℓ) (ρ : Dev nD → PrngReg)

/-- The launch state: memory `m`, every counter at zero. -/
def s₀ : MemSt nD τ sig (Elt F) := ⟨m, fun _ => 0, ρ⟩

/-! ## The ring of devices -/

/-- The device `o` places after `c`. -/
def nbr (c : Dev nD) (o : Fin 16) : Dev nD := ⟨(c.val + o.val) % 16, Nat.mod_lt _ (by decide)⟩
/-- The way back. -/
def opp (o : Fin 16) : Fin 16 := ⟨(16 - o.val) % 16, Nat.mod_lt _ (by decide)⟩

/-- Going back undoes going. -/
theorem nbr_opp : ∀ (c : Dev nD) (o : Fin 16), nbr (nbr c o) (opp o) = c := by decide
/-- Going undoes going back. -/
theorem nbr_nbr_opp : ∀ (c : Dev nD) (o : Fin 16), nbr (nbr c (opp o)) o = c := by decide
/-- The way back from the way back. -/
theorem opp_opp : ∀ o : Fin 16, opp (opp o) = o := by decide
/-- Only distance zero is its own device. -/
theorem opp_eq_zero : ∀ o : Fin 16, opp o = 0 ↔ o = 0 := by decide
/-- From `c` to `j` and on. -/
theorem nbr_sub : ∀ c j : Dev nD, nbr c (nbr j (opp c)) = j := by decide
/-- The distance recovered. -/
theorem sub_nbr : ∀ (c : Dev nD) (o : Fin 16), nbr (nbr c o) (opp c) = o := by decide
/-- A step's distance is not zero. -/
theorem succ_ne (r : Fin 15) : r.succ ≠ 0 := Fin.succ_ne_zero r

/-- Seeing each pair of devices from its other end. -/
def turn : (Dev nD × Fin 16) ≃ (Dev nD × Fin 16) :=
  ⟨fun p => (nbr p.1 p.2, opp p.2), fun p => (nbr p.1 p.2, opp p.2),
    fun p => Prod.ext (nbr_opp p.1 p.2) (opp_opp p.2), fun p => Prod.ext (nbr_opp p.1 p.2) (opp_opp p.2)⟩

/-- The first pass visits the device at distance `r + 1`; -/
theorem dev1_eq : ∀ (c : Dev nD) (r : Fin 15), dev1 c r = nbr c r.succ := by decide +kernel
/-- so does the second; -/
theorem dev2_eq : ∀ (c : Dev nD) (r : Fin 15), dev2 c r = nbr c r.succ := by decide +kernel
/-- so does the fourth. -/
theorem dev3_eq : ∀ (c : Dev nD) (r : Fin 15), dev3 c r = nbr c r.succ := by decide +kernel

/-! ## The semaphores -/

/-- Entry `j` lies in a sixteen-entry array. -/
theorem semInb : ∀ j : Fin 16, ∀ a, (![j.val] : Fin 1 → ℕ) a + S1.size a ≤ S16.size a := by decide
/-- Entry `j` of a DMA semaphore array. -/
def dmaAt (a : DmaSems sig S16) (j : Fin 16) : DmaSem sig :=
  ((a.slice (Rect.unit (s := S16) ![j.val] S1.size (semInb j))).squeeze S_ squeezes_S1_S_).sem
/-- Entry `j` of the ready array. -/
def rdyAt (j : Fin 16) : Sem sig :=
  ((cc0_scratch8.slice (Rect.unit (s := S16) ![j.val] S1.size (semInb j))).squeeze S_ squeezes_S1_S_).sem

/-- The semaphore of kind `k` and entry `j`. -/
def sl (k : Fin 5) (j : Fin 16) : SemLoc sig := match k with
  | 0 => .reg (rdyAt j)
  | 1 => .dma (dmaAt cc0_scratch5 j)
  | 2 => .dma (dmaAt cc0_scratch7 j)
  | 3 => .dma (dmaAt cc0_scratch4 j)
  | 4 => .dma (dmaAt cc0_scratch6 j)

/-- All semaphores of the protocol: the eighty above and the runtime's barrier. -/
def loc : Option (Fin 5 × Fin 16) → SemLoc sig
  | none => .reg barSem
  | some p => sl p.1 p.2

/-- A number for every semaphore. -/
def code : SemLoc sig → ℕ
  | .reg s => 2 * s.val
  | .dma d => 2 * d.val + 1
/-- They are all different. -/
theorem loc_inj : Function.Injective loc := by
  have h : ∀ a b : Option (Fin 5 × Fin 16), code (loc a) = code (loc b) → a = b := by decide +kernel
  exact fun a b e => h a b (congrArg code e)

/-! ## The slots of the sixteen-slot buffers -/

/-- Slot `j` lies in the buffer. -/
theorem slotInb : ∀ j : Dev nD, ∀ a, (![j.val, 0, 0] : Fin 3 → ℕ) a + S1x32x512.size a ≤ S16x32x512.size a := by decide
/-- The block of slot `j`. -/
abbrev slotRect (j : Dev nD) : Rect S16x32x512 := Rect.unit (s := S16x32x512) ![j.val, 0, 0] S1x32x512.size (slotInb j)
/-- Slot `j` of a sixteen-slot buffer, as thirty-two rows. -/
abbrev slotM (b : Memref sig .tc .vmem S16x32x512 .bf16) (j : Dev nD) : Memref sig .tc .vmem S32x512 .bf16 :=
  (b.slice (slotRect j) (fun _ => rfl)).squeeze S32x512 squeezes_S1x32x512_S32x512

/-- Where the second and the third pass find the slot of the device at step `r`. -/
theorem off4_eq : ∀ (c : Dev nD) (r : Fin 15), k0_off4 c (wd r) = ![(nbr c r.succ).val, 0, 0] := by decide +kernel
/-- Where the third pass loads from. -/
theorem off7_eq : ∀ (c : Dev nD) (r : Fin 15), k0_off7 c (wd r) = ![(nbr c r.succ).val, 0, 0] := by decide +kernel
/-- The entry of the device at step `r`. -/
theorem off2_eq : ∀ (c : Dev nD) (r : Fin 15), k0_off2 c (wd r) = ![(nbr c r.succ).val] := by decide +kernel

/-- A slot depends on its offsets only. -/
theorem slot_congr (b : Memref sig .tc .vmem S16x32x512 .bf16) {o o' : Fin 3 → ℕ} (h : o = o') (hi hi') :
    (b.slice (Rect.unit (s := S16x32x512) o S1x32x512.size hi) (fun _ => rfl)).squeeze S32x512 squeezes_S1x32x512_S32x512
      = (b.slice (Rect.unit (s := S16x32x512) o' S1x32x512.size hi') (fun _ => rfl)).squeeze S32x512 squeezes_S1x32x512_S32x512 := by
  subst h; rfl
/-- Device `c`'s own slot is slot `c`. -/
theorem mySlot_eq (b : Memref sig .tc .vmem S16x32x512 .bf16) (c : Dev nD) : mySlot b c = slotM b c := slot_congr b (k0_off3_eq c) _ _
/-- The slot at step `r` is the slot of the device at that distance. -/
theorem toSlot_eq (b : Memref sig .tc .vmem S16x32x512 .bf16) (c : Dev nD) (r : Fin 15) : toSlot b c r = slotM b (nbr c r.succ) :=
  slot_congr b (off4_eq c r) _ _

/-- An entry of a DMA array depends on its offset only. -/
theorem dma_congr (a : DmaSems sig S16) {o o' : Fin 1 → ℕ} (h : o = o') (hi hi') :
    ((a.slice (Rect.unit (s := S16) o S1.size hi)).squeeze S_ squeezes_S1_S_).sem = ((a.slice (Rect.unit (s := S16) o' S1.size hi')).squeeze S_ squeezes_S1_S_).sem := by
  subst h; rfl
/-- So does an entry of a counting array. -/
theorem reg_congr (a : Sems sig S16) {o o' : Fin 1 → ℕ} (h : o = o') (hi hi') :
    ((a.slice (Rect.unit (s := S16) o S1.size hi)).squeeze S_ squeezes_S1_S_).sem = ((a.slice (Rect.unit (s := S16) o' S1.size hi')).squeeze S_ squeezes_S1_S_).sem := by
  subst h; rfl
/-- Device `c`'s own entry is entry `c`. -/
theorem myDma_eq (a : DmaSems sig S16) (c : Dev nD) : myDma a c = dmaAt a c := dma_congr a (k0_off1_eq c) _ _
/-- The entry at step `r` is the entry of the device at that distance. -/
theorem toDma_eq (a : DmaSems sig S16) (c : Dev nD) (r : Fin 15) : toDma a c r = dmaAt a (nbr c r.succ) := dma_congr a (off2_eq c r) _ _
/-- The entry numbered by the distance of step `r`. -/
theorem distDma_eq (a : DmaSems sig S16) (r : Fin 15) : distDma a r = dmaAt a r.succ := dma_congr a (by rw [Fin.val_succ, Nat.add_comm]) _ _
/-- Device `c`'s own entry of the ready array. -/
theorem myReady_eq (c : Dev nD) : myReady c = rdyAt c := reg_congr _ (k0_off1_eq c) _ _
/-- The ready entry of the device at step `r`. -/
theorem toReady_eq (c : Dev nD) (r : Fin 15) : toReady c r = rdyAt (nbr c r.succ) := reg_congr _ (off2_eq c r) _ _

/-- The place in the buffer of a slot's row and column. -/
theorem slot_ix (j : Dev nD) (y : S32x512.Idx) :
    (slotRect j).emb (Shape.reshapeEquiv (squeezes_S1x32x512_S32x512 : S1x32x512.Squeezes S32x512).numel_eq y) = ix3 (j : Fin 16) (y 0) (y 1) := by
  obtain ⟨p, q, rfl⟩ : ∃ p q, y = ix2 p q := ⟨y 0, y 1, eq_ix2 y⟩
  rw [show Shape.reshapeEquiv (squeezes_S1x32x512_S32x512 : S1x32x512.Squeezes S32x512).numel_eq (ix2 p q) = ix3 (0 : Fin 1) p q from reshapeEquiv_ix2_1ab _ _ _]
  funext a
  refine Fin.ext ?_
  match a with
  | ⟨0, _⟩ => show j.val + 1 * 0 = j.val; omega
  | ⟨1, _⟩ => show 0 + 1 * p.val = p.val; omega
  | ⟨2, _⟩ => show 0 + 1 * q.val = q.val; omega

/-- Slot `j` of the contents of a sixteen-slot buffer. -/
def rowOf (X : S16x32x512.Idx → Elt F .bf16) (j : Dev nD) : S32x512.Idx → Elt F .bf16 := fun y => X (ix3 (j : Fin 16) (y 0) (y 1))
/-- The contents made of sixteen slots. -/
def stack (Y : Dev nD → S32x512.Idx → Elt F .bf16) : S16x32x512.Idx → Elt F .bf16 := fun i => Y (i 0) (ix2 (i 1) (i 2))
omit [FloatOps F] in
/-- A stack's slots. -/
theorem rowOf_stack (Y : Dev nD → S32x512.Idx → Elt F .bf16) (j : Dev nD) : rowOf (stack Y) j = Y j :=
  funext fun y => congrArg (Y j) (eq_ix2 y).symm

section Slots
variable (c : Dev nD) (b : Memref sig .tc .vmem S16x32x512 .bf16) (q : PosShare TreeShare)

/-- Different slots share nothing. -/
theorem slot_disj (j j' : Dev nD) (h : j ≠ j') : Disjoint (slotRect j).set (slotRect j').set := by
  rw [Finset.disjoint_left]
  intro x hx hx'
  have e := (Rect.mem_set_unit.mp hx) 0
  have e' := (Rect.mem_set_unit.mp hx') 0
  apply h; apply Fin.ext
  simp at e e'
  omega
/-- The slots are the whole buffer. -/
theorem slot_cover : (Finset.univ : Finset (Dev nD)).biUnion (fun j => (slotRect j).set) = Finset.univ := by
  refine Finset.eq_univ_of_forall fun x => Finset.mem_biUnion.mpr ⟨x 0, Finset.mem_univ _, Rect.mem_set_unit.mpr fun a => ?_⟩
  match a with
  | ⟨0, _⟩ => exact ⟨le_refl _, Nat.lt_succ_self _⟩
  | ⟨1, _⟩ => exact ⟨Nat.zero_le _, (x 1).isLt.trans_eq (Nat.zero_add _).symm⟩
  | ⟨2, _⟩ => exact ⟨Nat.zero_le _, (x 2).isLt.trans_eq (Nat.zero_add _).symm⟩

omit [FloatOps F] in
/-- A slot owned as thirty-two rows is the slot owned as a block of the buffer. -/
theorem owns_slot (j : Dev nD) (X : S16x32x512.Idx → Elt F .bf16) :
    (owns (c : Thread nD τ) (slotM b j) q (rowOf X j) : sProp 𝕄)
      = owns (c : Thread nD τ) (b.slice (slotRect j) (fun _ => rfl)) q (fun z => X ((slotRect j).emb z)) := by
  have key : ∀ f : (b.slice (slotRect j) (fun _ => rfl)).view.ty.Contents (Elt F),
      (slotM b j).view.read (Elt F) f = rowOf X j ↔ (b.slice (slotRect j) (fun _ => rfl)).view.read (Elt F) f = fun z => X ((slotRect j).emb z) := by
    intro f
    constructor
    · intro h
      funext z
      obtain ⟨y, rfl⟩ := (Shape.reshapeEquiv (squeezes_S1x32x512_S32x512 : S1x32x512.Squeezes S32x512).numel_eq).surjective z
      exact (congrFun h y).trans (congrArg X (slot_ix j y).symm)
    · intro h
      funext y
      exact (congrFun h (Shape.reshapeEquiv _ y)).trans (congrArg X (slot_ix j y))
  unfold owns
  have hs : (slotM b j).view.set = (b.slice (slotRect j) (fun _ => rfl)).view.set := View.set_reshape (v := (b.slice (slotRect j) (fun _ => rfl)).view) _
  rw [hs]
  refine BI.equiv_iff.mp ⟨(?_ : (_ : sProp 𝕄) ⊢ _), (?_ : (_ : sProp 𝕄) ⊢ _)⟩
  · iintro ⟨%f, %hf, H⟩; iexists f
    isplitr; · ipureintro; exact (key f).1 hf
    iexact H
  · iintro ⟨%f, %hf, H⟩; iexists f
    isplitr; · ipureintro; exact (key f).2 hf
    iexact H

omit [FloatOps F] in
/-- A buffer owned whole is its sixteen slots; -/
theorem slots_split (X : S16x32x512.Idx → Elt F .bf16) :
    (owns (c : Thread nD τ) b q X : sProp 𝕄) ⊢ bigSep Finset.univ fun j : Dev nD => owns (c : Thread nD τ) (slotM b j) q (rowOf X j) := by
  refine (owns_rects (c : Thread nD τ) b q slotRect (fun _ _ => rfl) slot_disj slot_cover X).trans (Entails.of_eq ?_)
  exact bigSep_congr fun j _ => (owns_slot c b q j X).symm
/-- and sixteen slots are the buffer. -/
theorem slots_join [∀ e, Nonempty (Elt F e)] (X : S16x32x512.Idx → Elt F .bf16) :
    (bigSep Finset.univ fun j : Dev nD => owns (c : Thread nD τ) (slotM b j) q (rowOf X j)) ⊢ (owns (c : Thread nD τ) b q X : sProp 𝕄) := by
  refine (Entails.of_eq (bigSep_congr fun j _ => owns_slot c b q j X)).trans ?_
  exact owns_of_rects (c : Thread nD τ) b q slotRect (fun _ _ => rfl) slot_disj slot_cover X
end Slots

/-! ## The contents -/

variable {m ρ} in
/-- A block of thirty-two rows as a one-slot buffer. -/
def unsq (Y : S32x512.Idx → Elt F .bf16) : S1x32x512.Idx → Elt F .bf16 := fun z => Y (ix2 (z 1) (z 2))

/-- What the six staging buffers are fetched with. -/
abbrev inX (c : Dev nD) : S512x256.Idx → Elt F .f32 := iblk m c 0 t0_0
/-- The router's weights. -/
abbrev inR (c : Dev nD) : S256x64.Idx → Elt F .f32 := iblk m c 1 t0_0
/-- The chosen experts. -/
abbrev inI (c : Dev nD) : S512x1.Idx → Elt F .i32 := iblk m c 2 t0_0
/-- The device's four experts. -/
abbrev inE (c : Dev nD) : S4x256x512.Idx → Elt F .f32 := iblk m c 3 t0_0
/-- The shared expert. -/
abbrev inS (c : Dev nD) : S256x512.Idx → Elt F .f32 := iblk m c 4 t0_0

/-- Device `c`'s partial sums, as stored. -/
abbrev partialBuf (c : Dev nD) : S16x32x512.Idx → Elt F .bf16 :=
  partialOf c (inX m c) (inR m c) (inI m c)
    ((Memref.whole cc0_stg3_0).view.readAt (Elt F) (Rect.unit (s := S4x256x512) ![0, 0, 0] S1x256x512.size inb_S4x256x512_S1x256x512_0_0_0).toLoadRect (inE m c))
    ((Memref.whole cc0_stg3_0).view.readAt (Elt F) (Rect.unit (s := S4x256x512) ![1, 0, 0] S1x256x512.size inb_S4x256x512_S1x256x512_1_0_0).toLoadRect (inE m c))
    ((Memref.whole cc0_stg3_0).view.readAt (Elt F) (Rect.unit (s := S4x256x512) ![2, 0, 0] S1x256x512.size inb_S4x256x512_S1x256x512_2_0_0).toLoadRect (inE m c))
    ((Memref.whole cc0_stg3_0).view.readAt (Elt F) (Rect.unit (s := S4x256x512) ![3, 0, 0] S1x256x512.size inb_S4x256x512_S1x256x512_3_0_0).toLoadRect (inE m c))
/-- Device `p`'s partial sums for device `j`'s rows. -/
abbrev prow (p j : Dev nD) : S32x512.Idx → Elt F .bf16 := rowOf (partialBuf m p) j
/-- What device `c` starts its sum from: the shared expert and its own partial sums, at its own rows. -/
abbrev acc0 (c : Dev nD) : FVec F S32x512 .f32 :=
  k0_pay10 ((Memref.whole cc0_stg0_0).view.readAt (Elt F) (Rect.unit (s := S512x256) (k0_off5 c) S32x256.size (k0_off5_inb c)).toLoadRect (inX m c)) (inS m c)
    (unsq (prow m c c))
/-- One addition of the third pass. -/
def addStep (c : Dev nD) (a : FVec F S32x512 .f32) (r : Fin 15) : FVec F S32x512 .f32 := k0_pay12 a (unsq (prow m (nbr c r.succ) c))
/-- Device `c`'s rows of the result. -/
abbrev red (c : Dev nD) : FVec F S32x512 .f32 := steps.foldl (addStep m c) (acc0 m c)
/-- Device `c`'s rows as it sends them. -/
def brow (c : Dev nD) : S32x512.Idx → Elt F .bf16 := bcastOf (red m c)
/-- The result device `c` stores: all rows as received, over which its own rows as summed. -/
def outAt (c : Dev nD) : S512x512.Idx → Elt F .f32 :=
  ((Memref.whole cc0_stg5_0).access (Rect.unit (s := S512x512) (k0_off8 c) S32x512.size (k0_off8_inb c)) : View sig .tc _ _ _).write (Elt F)
    (k0_pay23 (stack fun j => brow m j)) (red m c) Finset.univ

/-! ## The schedule -/

/-- What a transfer of thirty-two rows adds to its semaphores. -/
abbrev N : ℕ := b8.view.dmaCredit
/-- It is positive. -/
theorem N_pos : 0 < N := View.dmaCredit_pos _ (by decide)

/-- A transfer to the landing slots adds as much. -/
theorem credit7 (j : Dev nD) : (slotM b7 j).view.dmaCredit = N := rfl
/-- A transfer to the gathering slots too. -/
theorem credit9 (j : Dev nD) : (slotM b9 j).view.dmaCredit = N := rfl
/-- And one to the partial sums' slots. -/
theorem credit6 (j : Dev nD) : (slotM b6 j).view.dmaCredit = N := rfl

/-- The entry of the semaphore array of kind `k` standing for distance `o`. -/
def raw (k : Fin 5) (c : Dev nD) (o : Fin 16) : Fin 16 := if k.val < 3 then nbr c o else o
/-- The distance the entry `j` of kind `k` stands for. -/
def unraw (k : Fin 5) (c : Dev nD) (j : Fin 16) : Fin 16 := if k.val < 3 then nbr j (opp c) else j
/-- The two undo each other. -/
theorem unraw_raw (k : Fin 5) (c : Dev nD) (o : Fin 16) : unraw k c (raw k c o) = o := by
  unfold unraw raw; split
  · exact sub_nbr c o
  · rfl
/-- The other way round. -/
theorem raw_unraw (k : Fin 5) (c : Dev nD) (j : Fin 16) : raw k c (unraw k c j) = j := by
  unfold unraw raw; split
  · exact nbr_sub c j
  · rfl

/-- Device `c`'s cell of kind `k` at distance `o`. -/
def cell (c : Dev nD) (k : Fin 5) (o : Fin 16) : GSem nD τ sig := ((c : Thread nD τ), sl k (raw k c o))
/-- Device `c`'s runtime barrier. -/
def bar (c : Dev nD) : GSem nD τ sig := ((c : Thread nD τ), .reg barSem)

/-- The cell of another device that device `c` signals: entry `c` there. -/
theorem cell_far (c : Dev nD) (k : Fin 5) (hk : k.val < 3) (o : Fin 16) : cell (nbr c o) k (opp o) = (((nbr c o : Dev nD) : Thread nD τ), sl k c) := by
  unfold cell raw; rw [if_pos hk, nbr_opp]
/-- A cell of kind below three: entry of the other device. -/
theorem cell_near (c : Dev nD) (k : Fin 5) (hk : k.val < 3) (o : Fin 16) : cell c k o = ((c : Thread nD τ), sl k (nbr c o)) := by
  unfold cell raw; rw [if_pos hk]
/-- A cell of a departure: entry by distance. -/
theorem cell_own (c : Dev nD) (k : Fin 5) (hk : ¬k.val < 3) (o : Fin 16) : cell c k o = ((c : Thread nD τ), sl k o) := by
  unfold cell raw; rw [if_neg hk]

/-- What the cell of kind `k` at distance `o` of device `c` hands `c` over. -/
def hand (k : Fin 5) (c : Dev nD) (o : Fin 16) : sProp 𝕄 := match k with
  | 0 => iprop((∃ X, owns ((nbr c o : Dev nD) : Thread nD τ) (slotM b7 c) fullShare X) ∗ (∃ X, owns ((nbr c o : Dev nD) : Thread nD τ) (slotM b9 c) fullShare X))
  | 1 => owns (c : Thread nD τ) (slotM b7 (nbr c o)) fullShare (prow m (nbr c o) c)
  | 2 => owns (c : Thread nD τ) (slotM b9 (nbr c o)) fullShare (brow m (nbr c o))
  | 3 => owns (c : Thread nD τ) (slotM b6 (nbr c o)) fullShare (prow m c (nbr c o))
  | 4 => owns (c : Thread nD τ) b8 (ShareLeaves.leaf 4 fullShare o) (brow m c)

/-- Which of the protocol's semaphores a semaphore is. -/
def dec (g : GSem nD τ sig) : Option (Option (Fin 5 × Fin 16)) := if g.1.2 = .tc then Function.partialInv loc g.2 else none
/-- A cell read back. -/
theorem dec_cell (c : Dev nD) (k : Fin 5) (o : Fin 16) : dec (cell c k o) = some (some (k, raw k c o)) :=
  (if_pos rfl).trans (Function.partialInv_left loc_inj (some (k, raw k c o)))
/-- The barrier read back. -/
theorem dec_bar (c : Dev nD) : dec (bar c) = some none :=
  (if_pos rfl).trans (Function.partialInv_left loc_inj none)

/-- Who is to signal a cell: one device, once, except at distance zero. -/
def dut (c : Dev nD) : Option (Option (Fin 5 × Fin 16)) → Finset Unit
  | some (some p) => if unraw p.1 c p.2 = 0 then ∅ else {()}
  | some none => {()}
  | none => ∅
/-- By how much. -/
def amt : Option (Option (Fin 5 × Fin 16)) → ℕ
  | some (some p) => if p.1 = 0 then 1 else N
  | _ => 1
/-- What is handed over. -/
def pay (c : Dev nD) : Option (Option (Fin 5 × Fin 16)) → sProp 𝕄
  | some (some p) => hand m p.1 c (unraw p.1 c p.2)
  | _ => iprop(emp)

/-- The protocol: every cell is signalled once, in its first round. -/
def sched : Rounds.Schedule (GSem nD τ sig) Unit 𝕄 where
  duties g r := if r = 0 then dut g.1.1 (dec g) else ∅
  unitless _ := False
  amount g _ _ := amt (dec g)
  payload g _ _ := pay m g.1.1 (dec g)
  amount_pos g _ _ _ := by
    show 0 < amt (dec g)
    unfold amt
    split
    · split
      · exact Nat.one_pos
      · exact N_pos
    · exact Nat.one_pos

/-- What a cell hands over can be stored in an invariant. -/
instance sched_payload_storable (g : GSem nD τ sig) (r : ℕ) (d : Unit) : BI.Storable (upEmb : UEmb _ 𝕄) ((sched m).payload g r d) := by
  show BI.Storable upEmb (pay m g.1.1 (dec g))
  unfold pay hand
  (repeat' split) <;> infer_instance

section Sched
variable (c : Dev nD) (k : Fin 5) (o : Fin 16)

/-- The duties of a live cell; -/
theorem duties_live (ho : o ≠ 0) : (sched m).duties (cell c k o) 0 = {()} := by
  show (if (0 : ℕ) = 0 then dut c (dec (cell c k o)) else ∅) = _
  rw [if_pos rfl, dec_cell]; unfold dut; dsimp only; rw [unraw_raw, if_neg ho]
/-- of a cell at distance zero; -/
theorem duties_dead (R : ℕ) : (sched m).duties (cell c k 0) R = ∅ := by
  show (if R = 0 then dut c (dec (cell c k 0)) else ∅) = _
  rw [dec_cell]; unfold dut; dsimp only; rw [unraw_raw, if_pos rfl, ite_self]
/-- of the barrier; -/
theorem duties_bar : (sched m).duties (bar c) 0 = {()} := by
  show (if (0 : ℕ) = 0 then dut c (dec (bar c)) else ∅) = _
  rw [if_pos rfl, dec_bar]; rfl
/-- and none later. -/
theorem duties_later (g : GSem nD τ sig) : ∀ R, 1 ≤ R → (sched m).duties g R = ∅ := fun R hR => if_neg (by omega)

/-- A ready signal is one unit; -/
theorem amount_ready (u : Unit) : (sched m).amount (cell c 0 o) 0 u = 1 := by
  show amt (dec (cell c 0 o)) = 1
  rw [dec_cell]; rfl
/-- a transfer a transfer's credit; -/
theorem amount_dma (hk : k ≠ 0) (u : Unit) : (sched m).amount (cell c k o) 0 u = N := by
  show amt (dec (cell c k o)) = N
  rw [dec_cell]; exact if_neg hk
/-- the barrier one unit. -/
theorem amount_bar (u : Unit) : (sched m).amount (bar c) 0 u = 1 := by
  show amt (dec (bar c)) = 1
  rw [dec_bar]; rfl

/-- A ready cell awaits one unit; -/
theorem expect_ready (ho : o ≠ 0) : (sched m).expect (cell c 0 o) 0 = 1 := by
  unfold Schedule.expect Schedule.amountOf; rw [duties_live m c _ o ho, Finset.sum_singleton, amount_ready]
/-- the cell of a transfer a transfer's credit; -/
theorem expect_dma (ho : o ≠ 0) (hk : k ≠ 0) : (sched m).expect (cell c k o) 0 = N := by
  unfold Schedule.expect Schedule.amountOf; rw [duties_live m c _ o ho, Finset.sum_singleton, amount_dma m c k _ hk]
/-- the barrier one unit. -/
theorem expect_bar : (sched m).expect (bar c) 0 = 1 := by
  unfold Schedule.expect Schedule.amountOf; rw [duties_bar, Finset.sum_singleton, amount_bar]

/-- A cell hands over what it is for; -/
theorem payload_cell (u : Unit) : (sched m).payload (cell c k o) 0 u = hand m k c o := by
  show pay m c (dec (cell c k o)) = _
  rw [dec_cell]; unfold pay; dsimp only; rw [unraw_raw]
/-- the barrier nothing. -/
theorem payload_bar (u : Unit) : (sched m).payload (bar c) 0 u = iprop(emp) := by
  show pay m c (dec (bar c)) = _
  rw [dec_bar]; rfl
/-- What a waiting device gets from a live cell. -/
theorem rest_cell (ho : o ≠ 0) : bigSep ((sched m).duties (cell c k o) 0 \ ∅) (fun u => (sched m).payload (cell c k o) 0 u) = hand m k c o := by
  rw [Finset.sdiff_empty, duties_live m c k o ho, bigSep_singleton, payload_cell]
/-- What the barrier gives. -/
theorem rest_bar : bigSep ((sched m).duties (bar c) 0 \ ∅) (fun u => (sched m).payload (bar c) 0 u) = iprop(emp) := by
  rw [Finset.sdiff_empty, duties_bar, bigSep_singleton, payload_bar]
end Sched

/-! ## What a device owes, and the ranks of the waits -/

/-- What device `c` owes the devices at the steps `l`, at their cells of kind `k`. -/
def T (k : Fin 5) (n : ℕ) (l : List (Fin 15)) (c : Dev nD) : CellTallies nD τ sig Unit :=
  (l.map fun r => tallyAt (cell (nbr c r.succ) k (opp r.succ)) () n).sum
/-- One step of it. -/
theorem T_cons (k : Fin 5) (n : ℕ) (r : Fin 15) (l : List (Fin 15)) (c : Dev nD) :
    T k n (r :: l) c = tallyAt (cell (nbr c r.succ) k (opp r.succ)) () n + T k n l c := by
  unfold T; rw [List.map_cons, List.sum_cons]
/-- No steps, nothing owed. -/
theorem T_nil (k : Fin 5) (n : ℕ) (c : Dev nD) : T k n [] c = 0 := rfl

/-- What device `c` owes when it starts: every other device a ready signal and two transfers, and itself the barrier. -/
def O₀ (c : Dev nD) : CellTallies nD τ sig Unit := T 0 1 steps c + (tallyAt (bar c) () 1 + (T 1 N steps c + T 2 N steps c))

/-- One index at every cell of a device. -/
def L (g : GSem nD τ sig) : Finset Unit := if g.1.2 = .tc then {()} else ∅
/-- The rank of the kind `k`. -/
def klv : Fin 5 → ℕ
  | 0 => 2 | 1 => 3 | 2 => 4 | 3 => 0 | 4 => 0
/-- The rank of a semaphore. -/
def dlv : Option (Option (Fin 5 × Fin 16)) → ℕ
  | some (some p) => klv p.1
  | some none => 1
  | none => 0
/-- The rank of a cell. -/
def lv (g : GSem nD τ sig) (_ : Unit) : ℕ := dlv (dec g)
/-- No index elsewhere. -/
theorem L_of_ne (g : GSem nD τ sig) (h : g.1.2 ≠ .tc) : L g = ∅ := if_neg h
/-- The index of a device's cell. -/
theorem L_tc (c : Dev nD) (sm : SemLoc sig) : L ((c : Thread nD τ), sm) = {()} := if_pos rfl
/-- The rank of a protocol cell; -/
theorem lv_cell (c : Dev nD) (k : Fin 5) (o : Fin 16) (u : Unit) : lv (cell c k o) u = klv k := by unfold lv; rw [dec_cell]; rfl
/-- of the barrier. -/
theorem lv_bar (c : Dev nD) (u : Unit) : lv (bar c) u = 1 := by unfold lv; rw [dec_bar]; rfl

/-- Everything owed in `O` is owed to devices and ranks above `n`. -/
def Above (n : ℕ) (O : CellTallies nD τ sig Unit) : Prop := ∀ g u, 0 < O g u → g.1.2 = .tc ∧ n < lv g u

/-- Nothing owed is above anything; -/
theorem above_zero (n : ℕ) : Above n 0 := fun g u h => absurd h (Nat.lt_irrefl 0)
/-- so are two above it together; -/
theorem above_add {n : ℕ} {O O' : CellTallies nD τ sig Unit} (h : Above n O) (h' : Above n O') : Above n (O + O') := fun g u hg => by
  rw [Pi.add_apply, Finsupp.add_apply] at hg
  rcases (show 0 < O g u ∨ 0 < O' g u by omega) with h1 | h1
  · exact h g u h1
  · exact h' g u h1
/-- a single cell above it is; -/
theorem above_one {n k : ℕ} {g : GSem nD τ sig} (hg : g.1.2 = .tc) (hl : n < lv g ()) : Above n (tallyAt g () k) := fun g' u h => by
  rw [tallyAt_apply] at h
  by_cases e : g' = g ∧ u = ()
  · rw [e.1]; exact ⟨hg, hl⟩
  · rw [if_neg e] at h; exact absurd h (Nat.lt_irrefl 0)
/-- and the cells of a kind ranked above it are. -/
theorem above_T {n : ℕ} (k : Fin 5) (hk : n < klv k) (v : ℕ) (l : List (Fin 15)) (c : Dev nD) : Above n (T k v l c) := by
  induction l with
  | nil => exact above_zero n
  | cons r l ih => rw [T_cons]; exact above_add (above_one rfl (by rw [lv_cell]; exact hk)) ih
/-- All that is owed at the start ranks above zero. -/
theorem above_O₀ (c : Dev nD) : Above 0 (O₀ c) :=
  above_add (above_T 0 (by decide) _ _ _) (above_add (above_one rfl (by rw [lv_bar]; decide)) (above_add (above_T 1 (by decide) _ _ _) (above_T 2 (by decide) _ _ _)))

/-- The ranks of all cells, known to everybody. -/
@[irreducible] def Lev : sProp 𝕄 := levAts L lv
omit [FloatOps F] in
/-- They are knowledge. -/
instance lev_persistent : BI.Persistent (Lev (F := F)) := by unfold Lev; infer_instance
omit [FloatOps F] in
/-- Written out. -/
theorem lev_eq : (Lev : sProp 𝕄) = levAts L lv := by unfold Lev; rfl

omit [FloatOps F] in
/-- A device may wait at a cell when it owes only cells ranked above it. -/
theorem mayWait (c : Dev nD) (sm : SemLoc sig) (n : ℕ) (hn : lv ((c : Thread nD τ), sm) () = n) (O : CellTallies nD τ sig Unit) (hO : Above n O) :
    (Lev : sProp 𝕄) ⊢ MayWait (c : Thread nD τ) sm () O := by
  unfold Lev
  exact MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn.le)
    (fun g u hg => (hO g u hg).2)

end Cert.KernelIdeal.Moe

end
-- ==== Proof.KernelIdeal.Steps.lean ====
/-
The six kinds of steps the kernel's passes take, each as a rule: what a step takes over, what it leaves. A pass is then
its step repeated (`wp_each`, `wp_eachWith`).
-/
module

public import proofs.«01_k».proof.Proof.KernelIdeal.Protocol

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-- No loops are left open by the kernel. -/
abbrev 𝒱₀ : Variants := Variants.none

/-- The weakest precondition of a program of device `c`. -/
abbrev wpc (c : Dev nD) {α : Type} (p : Prog (BodyEff F) α) (Q : α → sProp 𝕄) : sProp 𝕄 :=
  wp frame (wpE (defs₀ (F := F)) 𝒱₀ (c : Thread nD τ) none) Set.univ p Q

/-! ## Passes -/

/-- `Φ` at every entry of a list. -/
def sepL (Φ : Fin 15 → sProp 𝕄) : List (Fin 15) → sProp 𝕄
  | [] => iprop(emp)
  | r :: l => iprop(Φ r ∗ sepL Φ l)

omit [FloatOps F] in
/-- One entry and the rest. -/
theorem sepL_cons (Φ : Fin 15 → sProp 𝕄) (r : Fin 15) (l : List (Fin 15)) : sepL Φ (r :: l) = iprop(Φ r ∗ sepL Φ l) := rfl
omit [FloatOps F] in
/-- A list without repetitions is its set. -/
theorem sepL_eq (Φ : Fin 15 → sProp 𝕄) (l : List (Fin 15)) (hl : l.Nodup) : sepL Φ l = bigSep l.toFinset Φ := by
  induction l with
  | nil => rfl
  | cons r l ih =>
    rw [List.toFinset_cons, bigSep_insert (by rw [List.mem_toFinset]; exact (List.nodup_cons.mp hl).1), ← ih (List.nodup_cons.mp hl).2]; rfl

omit [FloatOps F] in
/-- All fifteen steps. -/
theorem sepL_steps (Φ : Fin 15 → sProp 𝕄) : sepL Φ steps = bigSep Finset.univ Φ :=
  (sepL_eq Φ steps (by decide)).trans (congrArg (fun s => bigSep s Φ) (by decide))

/-- A pass: its step repeated, `I` holding of the steps still to do. -/
theorem wp_each (c : Dev nD) (f : Fin 15 → Prog (BodyEff F) PUnit) (Pre Post : Fin 15 → sProp 𝕄) (I : List (Fin 15) → sProp 𝕄)
    (h : ∀ r l, iprop(Pre r ∗ I (r :: l)) ⊢ wpc c (f r) fun _ => iprop(Post r ∗ I l)) :
    ∀ l, iprop(sepL Pre l ∗ I l) ⊢ wpc c (each f l) fun _ => iprop(sepL Post l ∗ I [])
  | [] => by
    show _ ⊢ wpc c (.ret PUnit.unit) _
    unfold wpc; rw [wp_ret]
    iintro H; imodintro; iexact H
  | r :: l => by
    show _ ⊢ wpc c (f r >>= fun _ => each f l) _
    unfold wpc; rw [wp_bind, sepL_cons, sepL_cons]
    iintro ⟨⟨Hr, Hl⟩, HI⟩
    ihave Hw := (h r l) $$ [Hr HI]
    · isplitl [Hr] <;> iassumption
    iapply (wp_wand frame (wpE (defs₀ (F := F)) 𝒱₀ (c : Thread nD τ) none) Set.univ) $$ Hw
    iintro %_ ⟨Hp, HI⟩
    ihave Hw := (wp_each c f Pre Post I h l) $$ [Hl HI]
    · isplitl [Hl] <;> iassumption
    iapply (wp_wand frame (wpE (defs₀ (F := F)) 𝒱₀ (c : Thread nD τ) none) Set.univ) $$ Hw
    iintro %_ ⟨Hq, HI⟩
    isplitl [Hp Hq]
    · isplitl [Hp] <;> iassumption
    iexact HI

/-- A pass threading a value, each step making `g a r` of `a`. -/
theorem wp_eachWith {α : Type} (c : Dev nD) (f : Fin 15 → α → Prog (BodyEff F) α) (g : α → Fin 15 → α) (Pre Post : Fin 15 → sProp 𝕄) (I : List (Fin 15) → sProp 𝕄)
    (h : ∀ r l a, iprop(Pre r ∗ I (r :: l)) ⊢ wpc c (f r a) fun b => iprop(⌜b = g a r⌝ ∗ Post r ∗ I l)) :
    ∀ l a, iprop(sepL Pre l ∗ I l) ⊢ wpc c (eachWith f l a) fun b => iprop(⌜b = l.foldl g a⌝ ∗ sepL Post l ∗ I [])
  | [], a => by
    show _ ⊢ wpc c (.ret a) _
    unfold wpc; rw [wp_ret]
    iintro H; imodintro
    isplitr; · ipureintro; rfl
    iexact H
  | r :: l, a => by
    show _ ⊢ wpc c (f r a >>= fun b => eachWith f l b) _
    unfold wpc; rw [wp_bind, sepL_cons, sepL_cons]
    iintro ⟨⟨Hr, Hl⟩, HI⟩
    ihave Hw := (h r l a) $$ [Hr HI]
    · isplitl [Hr] <;> iassumption
    iapply (wp_wand frame (wpE (defs₀ (F := F)) 𝒱₀ (c : Thread nD τ) none) Set.univ) $$ Hw
    iintro %b ⟨%hb, Hp, HI⟩
    subst hb
    ihave Hw := (wp_eachWith c f g Pre Post I h l (g a r)) $$ [Hl HI]
    · isplitl [Hl] <;> iassumption
    iapply (wp_wand frame (wpE (defs₀ (F := F)) 𝒱₀ (c : Thread nD τ) none) Set.univ) $$ Hw
    iintro %b ⟨%hb, Hq, HI⟩
    isplitr; · ipureintro; exact hb
    isplitl [Hp Hq]
    · isplitl [Hp] <;> iassumption
    iexact HI

/-! ## What everybody knows -/

/-- The protocol's cells of all devices. -/
def kcell (x : Dev nD × Option (Fin 5 × Fin 16)) : GSem nD τ sig := ((x.1 : Thread nD τ), loc (x.2.map fun p => (p.1, raw p.1 x.1 p.2)))

/-- Every cell's invariant, at the names `K`, and that every cell has reached its first round. -/
def records (K : Dev nD × Option (Fin 5 × Fin 16) → ℕ) : sProp 𝕄 :=
  bigSep Finset.univ fun x => iprop(cellInv ER (sched m) (K x) (kcell x) ∗ reached ER (kcell x) 0)
/-- The recorded invariants may be used again and again. -/
instance records_persistent (K : Dev nD × Option (Fin 5 × Fin 16) → ℕ) : BI.Persistent (records m K) := by unfold records; infer_instance

/-- What every device knows throughout. -/
def Ctx (K : Dev nD × Option (Fin 5 × Fin 16) → ℕ) : sProp 𝕄 := iprop(records m K ∗ Lev)
/-- So may everything the steps share. -/
instance ctx_persistent (K : Dev nD × Option (Fin 5 × Fin 16) → ℕ) : BI.Persistent (Ctx m K) := by unfold Ctx; infer_instance

/-- A cell's record. -/
theorem record_at (K : Dev nD × Option (Fin 5 × Fin 16) → ℕ) (c : Dev nD) (k : Fin 5) (o : Fin 16) :
    Ctx m K ⊢ iprop(cellInv ER (sched m) (K (c, some (k, o))) (cell c k o) ∗ reached ER (cell c k o) 0) := by
  unfold Ctx records
  iintro ⟨H, -⟩
  ihave H' := (Entails.of_eq (bigSep_univ_at _ ((c, some (k, o)) : Dev nD × Option (Fin 5 × Fin 16)))) $$ H
  icases H' with ⟨H, -⟩
  iexact H
/-- The barrier's record. -/
theorem record_bar (K : Dev nD × Option (Fin 5 × Fin 16) → ℕ) (c : Dev nD) :
    Ctx m K ⊢ iprop(cellInv ER (sched m) (K (c, none)) (bar c) ∗ reached ER (bar c) 0) := by
  unfold Ctx records
  iintro ⟨H, -⟩
  ihave H' := (Entails.of_eq (bigSep_univ_at _ ((c, none) : Dev nD × Option (Fin 5 × Fin 16)))) $$ H
  icases H' with ⟨H, -⟩
  iexact H
/-- The ranks. -/
theorem ctx_lev (K : Dev nD × Option (Fin 5 × Fin 16) → ℕ) : Ctx m K ⊢ iprop(Lev) := by unfold Ctx; iintro ⟨-, H⟩; iexact H

/-! ## The rules behind the steps -/

section Rules

/-- A transfer of thirty-two rows to another device: the rows sent go to the cell of the departure, the rows written
    to the cell of the arrival. -/
theorem wp_send_rows {α : Type} {Q : α → sProp 𝕄} (c n : Dev nD) {src dst : Memref sig .tc .vmem S32x512 .bf16} {hsc : dst.view.ref.isScScratch = false} {sS s : DmaSem sig}
    {hsrc : src.view.WordExact} {hdst : dst.view.WordExact} {hsem : DmaTarget.Typed .vmem (.dma s) (.remote (Dev.tc n : Thread nD τ) dst (.dma sS) hsc)}
    {k : PUnit → Prog (BodyEff F) α} {κ₁ κ₂ : ℕ} {q : PosShare TreeShare} {X Y : S32x512.Idx → Elt F .bf16} {W : Waits sig Unit}
    {O₀ : CellTallies nD τ sig Unit} (O : CellTallies nD τ sig Unit)
    (hN : dst.view.dmaCredit = N)
    (hd₁ : () ∈ (sched m).duties ((c : Thread nD τ), .dma sS) 0) (hd₂ : () ∈ (sched m).duties ((n : Thread nD τ), .dma s) 0)
    (ha₁ : (sched m).amount ((c : Thread nD τ), .dma sS) 0 () = N) (ha₂ : (sched m).amount ((n : Thread nD τ), .dma s) 0 () = N)
    (hO : O₀ = O + tallyAt ((n : Thread nD τ), .dma s) () N)
    (hp₁ : (sched m).payload ((c : Thread nD τ), .dma sS) 0 () = owns (c : Thread nD τ) src q X)
    (hp₂ : (sched m).payload ((n : Thread nD τ), .dma s) 0 () = owns (n : Thread nD τ) dst fullShare X) :
    iprop(cellInv ER (sched m) κ₁ ((c : Thread nD τ), .dma sS) ∗ cellInv ER (sched m) κ₂ ((n : Thread nD τ), .dma s)
        ∗ owns (c : Thread nD τ) src q X ∗ owns (n : Thread nD τ) dst fullShare Y ∗ owes (c : Thread nD τ) O₀ W
        ∗ dutyTok ER ((c : Thread nD τ), .dma sS) 0 () ∗ reached ER ((c : Thread nD τ), .dma sS) 0
        ∗ dutyTok ER ((n : Thread nD τ), .dma s) 0 () ∗ reached ER ((n : Thread nD τ), .dma s) 0)
      ⊢ iprop(((cred (tallyAt ((c : Thread nD τ), .dma sS) () N) ∗ owes (c : Thread nD τ) O W) -∗ wpc c (k ⟨⟩) Q)
          -∗ wpc c (.op (.enqueueDma src (.remote (Dev.tc n : Thread nD τ) dst (.dma sS) hsc) (.dma s) hsrc hdst hsem) k) Q) := by
  iintro ⟨H1, H2, Hs, Hd, Ho, Ht⟩
  unfold owns
  icases Hs with ⟨%fs, %hfs, Hs⟩
  icases Hd with ⟨%fd, %hfd, Hd⟩
  iapply (Rounds.wp_send_pointsTo 𝒱₀ ER (sched m) (c : Thread nD τ) none (κ₁ := κ₁) (κ₂ := κ₂) (r₁ := 0) (r₂ := 0) (d₁ := ()) (d₂ := ())
    (fs := fs) (fd := fd) (q := q) hd₁ hd₂ () () N hN ha₁ ha₂ O hO (W := W)
    (by rw [hp₁, ← hfs]; exact owns_intro _ _ _ _)
    (by
      rw [hp₂]
      have e := View.read_write_univ (v := dst.view) (Val := Elt F) fd (src.view.read (Elt F) fs)
      rw [hfs] at e ⊢
      refine (owns_intro (n : Thread nD τ) dst fullShare _).trans (Entails.of_eq ?_)
      rw [e]))
  isplitl [H1]; · iexact H1
  isplitl [H2]; · iexact H2
  isplitl [Hs]; · iexact Hs
  isplitl [Hd]; · iexact Hd
  isplitl [Ho]; · iexact Ho
  iexact Ht

/-- `wp_send_rows` for a transfer written with other names of the same devices, buffers and semaphores. -/
theorem wp_send_rows_of {α : Type} {Q : α → sProp 𝕄} (c n : Dev nD) {n' : Dev nD} (src dst : Memref sig .tc .vmem S32x512 .bf16) (sS s : DmaSem sig)
    {src' dst' : Memref sig .tc .vmem S32x512 .bf16} {hsc : dst'.view.ref.isScScratch = false} {sS' s' : DmaSem sig}
    {hsrc : src'.view.WordExact} {hdst : dst'.view.WordExact} {hsem : DmaTarget.Typed .vmem (.dma s') (.remote (Dev.tc n' : Thread nD τ) dst' (.dma sS') hsc)}
    {k : PUnit → Prog (BodyEff F) α} {κ₁ κ₂ : ℕ} {q : PosShare TreeShare} {X Y : S32x512.Idx → Elt F .bf16} {W : Waits sig Unit}
    {O₀ : CellTallies nD τ sig Unit} (O : CellTallies nD τ sig Unit)
    (en : n' = n) (esrc : src' = src) (edst : dst' = dst) (esS : sS' = sS) (es : s' = s)
    (hN : dst.view.dmaCredit = N)
    (hd₁ : () ∈ (sched m).duties ((c : Thread nD τ), .dma sS) 0) (hd₂ : () ∈ (sched m).duties ((n : Thread nD τ), .dma s) 0)
    (ha₁ : (sched m).amount ((c : Thread nD τ), .dma sS) 0 () = N) (ha₂ : (sched m).amount ((n : Thread nD τ), .dma s) 0 () = N)
    (hO : O₀ = O + tallyAt ((n : Thread nD τ), .dma s) () N)
    (hp₁ : (sched m).payload ((c : Thread nD τ), .dma sS) 0 () = owns (c : Thread nD τ) src q X)
    (hp₂ : (sched m).payload ((n : Thread nD τ), .dma s) 0 () = owns (n : Thread nD τ) dst fullShare X) :
    iprop(cellInv ER (sched m) κ₁ ((c : Thread nD τ), .dma sS) ∗ cellInv ER (sched m) κ₂ ((n : Thread nD τ), .dma s)
        ∗ owns (c : Thread nD τ) src q X ∗ owns (n : Thread nD τ) dst fullShare Y ∗ owes (c : Thread nD τ) O₀ W
        ∗ dutyTok ER ((c : Thread nD τ), .dma sS) 0 () ∗ reached ER ((c : Thread nD τ), .dma sS) 0
        ∗ dutyTok ER ((n : Thread nD τ), .dma s) 0 () ∗ reached ER ((n : Thread nD τ), .dma s) 0)
      ⊢ iprop(((cred (tallyAt ((c : Thread nD τ), .dma sS) () N) ∗ owes (c : Thread nD τ) O W) -∗ wpc c (k ⟨⟩) Q)
          -∗ wpc c (.op (.enqueueDma src' (.remote (Dev.tc n' : Thread nD τ) dst' (.dma sS') hsc) (.dma s') hsrc hdst hsem) k) Q) := by
  subst en; subst esrc; subst edst; subst esS; subst es
  exact wp_send_rows m c n' O hN hd₁ hd₂ ha₁ ha₂ hO hp₁ hp₂

/-- A wait for the one signal of a cell: what it was for is handed over. -/
theorem wp_wait_cell {α : Type} {Q : α → sProp 𝕄} (c : Dev nD) {C : sProp 𝕄} (hC : C ⊢ iprop(Lev)) {w : TpuEff nD τ sig (Elt F) Λ₀ .tc PUnit} {sm : SemLoc sig} {v : ℕ}
    (hw : ∀ P : PUnit → sProp 𝕄, wpE (defs₀ (F := F)) 𝒱₀ (c : Thread nD τ) none Set.univ w P = waitSpec (c : Thread nD τ) Set.univ sm v P)
    {k : PUnit → Prog (BodyEff F) α} {κ : ℕ} {O : CellTallies nD τ sig Unit} {W : Waits sig Unit} {H : sProp 𝕄}
    (hk : (sched m).expect ((c : Thread nD τ), sm) 0 = v) (hO : Above (lv ((c : Thread nD τ), sm) ()) O)
    (hH : bigSep ((sched m).duties ((c : Thread nD τ), sm) 0 \ ∅) (fun u => (sched m).payload ((c : Thread nD τ), sm) 0 u) = H) :
    iprop(cellInv ER (sched m) κ ((c : Thread nD τ), sm) ∗ C ∗ cred (tallyAt ((c : Thread nD τ), sm) () v) ∗ atPos ER ((c : Thread nD τ), sm) 0 ∅ 0 ∗ owes (c : Thread nD τ) O W)
      ⊢ iprop(((owes (c : Thread nD τ) O (insert (sm, ()) W) ∗ atPos ER ((c : Thread nD τ), sm) 1 ∅ 0 ∗ H) -∗ wpc c (k ⟨⟩) Q)
          -∗ wpc c (.op w k) Q) := by
  subst hH
  iintro ⟨HI, Hl, Hc, Hat, Ho⟩ Hk
  iapply (Rounds.wp_wait_rest_token 𝒱₀ ER (sched m) (c : Thread nD τ) none (κ := κ) hw (Set.mem_univ _) () (O := O) (W := W) (R := 0) (m := 0) (T := ∅)
      (by rw [hk, Nat.zero_add])) $$ [HI Hl Hc Hat Ho]
  · isplitl [HI]; · iexact HI
    isplitl [Hc]; · iexact Hc
    isplitl [Ho]; · iexact Ho
    isplitl [Hl]; · iapply (hC.trans (mayWait c sm _ rfl O hO)); iexact Hl
    iexact Hat
  iintro ⟨HO, Hat, -, Hp⟩
  iapply Hk
  isplitl [HO]; · iexact HO
  isplitl [Hat]; · iexact Hat
  iexact Hp

/-- A load of a slot of a sixteen-slot buffer. -/
theorem wp_load_slot {α : Type} {Q : α → sProp 𝕄} (c : Dev nD) (b : Memref sig .tc .vmem S16x32x512 .bf16) {o : Fin 3 → ℕ} {hi : ∀ a, o a + S1x32x512.size a ≤ S16x32x512.size a} (j : Dev nD) (ho : o = ![j.val, 0, 0])
    {hl : b.view.LoadsAt (Rect.unit (s := S16x32x512) o S1x32x512.size hi).toLoadRect}
    {k : (S1x32x512.Idx → Elt F .bf16) → Prog (BodyEff F) α} (Y : S32x512.Idx → Elt F .bf16) :
    (owns (c : Thread nD τ) (slotM b j) fullShare Y : sProp 𝕄)
      ⊢ iprop((owns (c : Thread nD τ) (slotM b j) fullShare Y -∗ wpc c (k (unsq Y)) Q)
          -∗ wpc c (.op (.load b (Rect.unit (s := S16x32x512) o S1x32x512.size hi).toLoadRect hl) k) Q) := by
  subst ho
  unfold owns
  iintro ⟨%f, %hf, H⟩ Hk
  iapply (wp_load 𝒱₀ (c : Thread nD τ) none Set.univ (m := b) (S := (slotM b j).view.set)
    (by rw [show (slotM b j).view.set = (b.slice (slotRect j) (fun _ => rfl)).view.set from View.set_reshape (v := (b.slice (slotRect j) (fun _ => rfl)).view) _]
        exact (View.set_slice _ _).ge)) $$ H
  iintro H
  have e : b.view.readAt (Elt F) (Rect.unit (s := S16x32x512) ![j.val, 0, 0] S1x32x512.size hi).toLoadRect f = unsq Y := by
    rw [← hf]
    funext z
    obtain ⟨y, rfl⟩ := (Shape.reshapeEquiv (squeezes_S1x32x512_S32x512 : S1x32x512.Squeezes S32x512).numel_eq).surjective z
    obtain ⟨p, q, rfl⟩ : ∃ p q, y = ix2 p q := ⟨y 0, y 1, eq_ix2 y⟩
    refine Eq.trans (b := (slotM b j).view.read (Elt F) f (ix2 p q)) rfl ?_
    rw [show Shape.reshapeEquiv (squeezes_S1x32x512_S32x512 : S1x32x512.Squeezes S32x512).numel_eq (ix2 p q) = ix3 (0 : Fin 1) p q from reshapeEquiv_ix2_1ab _ _ _]
    rfl
  rw [e]
  iapply Hk
  iexists f
  isplitr; · ipureintro; exact hf
  iexact H
end Rules

end Cert.KernelIdeal.Moe

end
-- ==== Proof.KernelIdeal.Loops.lean ====
/-
The six passes: for each, what one step takes and leaves, and the pass as a whole.
-/
module

public import proofs.«01_k».proof.Proof.KernelIdeal.Steps

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × Option (Fin 5 × Fin 16) → ℕ) (c : Dev nD)

/-- What holds all through a pass: the records, and what is still owed. -/
def Inv (O : List (Fin 15) → CellTallies nD τ sig Unit) (l : List (Fin 15)) : sProp 𝕄 := iprop(Ctx m K ∗ ∃ W, owes (c : Thread nD τ) (O l) W)

/-- The way back from a step is not the way to oneself. -/
theorem opp_succ_ne (r : Fin 15) : opp r.succ ≠ 0 := fun h => Fin.succ_ne_zero r ((opp_eq_zero _).mp h)

/-- A step pays its own debt. -/
theorem owed_step (k : Fin 5) (hk : k.val < 3) (n : ℕ) (R : CellTallies nD τ sig Unit) (r : Fin 15) (l : List (Fin 15)) :
    T k n (r :: l) c + R = T k n l c + R + tallyAt (((nbr c r.succ : Dev nD) : Thread nD τ), sl k c) () n := by
  rw [T_cons, cell_far c k hk, add_assoc, add_comm]

/-- A cell's payload as seen from the device that signals it. -/
theorem hand_far (k : Fin 5) (hk : k.val < 3) (o : Fin 16) (u : Unit) :
    (sched m).payload (((nbr c o : Dev nD) : Thread nD τ), sl k c) 0 u = hand m k (nbr c o) (opp o) := by
  rw [← cell_far c k hk, payload_cell]

/-- A cell of another device that this one signals by a transfer has its duty; -/
theorem duty_far (k : Fin 5) (hk : k.val < 3) (r : Fin 15) : () ∈ (sched m).duties (((nbr c r.succ : Dev nD) : Thread nD τ), sl k c) 0 := by
  rw [← cell_far c k hk, duties_live m _ _ _ (opp_succ_ne r)]; exact Finset.mem_singleton_self _
/-- and its amount. -/
theorem amount_far (k : Fin 5) (hk : k.val < 3) (h0 : k ≠ 0) (o : Fin 16) (u : Unit) : (sched m).amount (((nbr c o : Dev nD) : Thread nD τ), sl k c) 0 u = N := by
  rw [← cell_far c k hk, amount_dma m _ _ _ h0]
/-- A cell of a departure has its duty, -/
theorem duty_own (k : Fin 5) (hk : ¬k.val < 3) (r : Fin 15) : () ∈ (sched m).duties ((c : Thread nD τ), sl k r.succ) 0 := by
  rw [← cell_own c k hk, duties_live m _ _ _ (Fin.succ_ne_zero r)]; exact Finset.mem_singleton_self _
/-- its amount, -/
theorem amount_own (k : Fin 5) (hk : ¬k.val < 3) (o : Fin 16) (u : Unit) : (sched m).amount ((c : Thread nD τ), sl k o) 0 u = N := by
  rw [← cell_own c k hk, amount_dma m _ _ _ (fun h => hk (by rw [h]; decide))]
/-- and hands back the rows sent. -/
theorem hand_own (k : Fin 5) (hk : ¬k.val < 3) (o : Fin 16) (u : Unit) : (sched m).payload ((c : Thread nD τ), sl k o) 0 u = hand m k c o := by
  rw [← cell_own c k hk, payload_cell]

/-- A wait at a live cell, written with another name of its semaphore: the position moves on and the payload comes. -/
theorem wp_wait_at {α : Type} {Q : α → sProp 𝕄} {w : TpuEff nD τ sig (Elt F) Λ₀ .tc PUnit} (sm : SemLoc sig) (v : ℕ) (k : Fin 5) (r : Fin 15)
    (hw : ∀ P : PUnit → sProp 𝕄, wpE (defs₀ (F := F)) 𝒱₀ (c : Thread nD τ) none Set.univ w P = waitSpec (c : Thread nD τ) Set.univ sm v P)
    (e : cell c k r.succ = ((c : Thread nD τ), sm)) (hv : (sched m).expect (cell c k r.succ) 0 = v)
    {p : PUnit → Prog (BodyEff F) α} (O : CellTallies nD τ sig Unit) (hO : Above (klv k) O) :
    iprop(Ctx m K ∗ cred (tallyAt (cell c k r.succ) () v) ∗ atPos ER (cell c k r.succ) 0 ∅ 0 ∗ ∃ W, owes (c : Thread nD τ) O W)
      ⊢ iprop((((∃ W, owes (c : Thread nD τ) O W) ∗ atPos ER (cell c k r.succ) 1 ∅ 0 ∗ hand m k c r.succ) -∗ wpc c (p ⟨⟩) Q)
          -∗ wpc c (.op w p) Q) := by
  have hH := rest_cell m c k r.succ (Fin.succ_ne_zero r)
  have hl := lv_cell c k r.succ ()
  iintro ⟨#HC, Hc, Hat, %W, Ho⟩ Hk
  ihave Hr := (record_at m K c k r.succ) $$ HC
  icases Hr with ⟨HI, -⟩
  rw [e] at hv hH hl ⊢
  iapply (wp_wait_cell m c (ctx_lev m K) hw (κ := K (c, some (k, r.succ))) (O := O) (W := W) (H := hand m k c r.succ) hv (by rw [hl]; exact hO) hH) $$ [HI Hc Hat Ho]
  · isplitl [HI]; · iexact HI
    isplitr; · iexact HC
    isplitl [Hc]; · iexact Hc
    isplitl [Hat]; · iexact Hat
    iexact Ho
  iintro ⟨Ho, Hat, Hp⟩
  iapply Hk
  isplitl [Ho]; · iexists (insert (sm, ()) W); iexact Ho
  isplitl [Hat]; · iexact Hat
  iexact Hp

/-- `wp_wait_at` for a transfer's wait. -/
theorem wp_wait_rows {α : Type} {Q : α → sProp 𝕄} (k : Fin 5) (r : Fin 15) (h0 : k ≠ 0) (s : DmaSem sig) {src dst : Memref sig .tc .vmem S32x512 .bf16}
    {hsrc : src.view.WordExact} {hdst : dst.view.WordExact} (hN : dst.view.dmaCredit = N) (e : cell c k r.succ = ((c : Thread nD τ), .dma s))
    {p : PUnit → Prog (BodyEff F) α} (O : CellTallies nD τ sig Unit) (hO : Above (klv k) O) :
    iprop(Ctx m K ∗ cred (tallyAt (cell c k r.succ) () N) ∗ atPos ER (cell c k r.succ) 0 ∅ 0 ∗ ∃ W, owes (c : Thread nD τ) O W)
      ⊢ iprop((((∃ W, owes (c : Thread nD τ) O W) ∗ atPos ER (cell c k r.succ) 1 ∅ 0 ∗ hand m k c r.succ) -∗ wpc c (p ⟨⟩) Q)
          -∗ wpc c (.op (.waitDma2 s src dst hsrc hdst) p) Q) :=
  wp_wait_at m K c (.dma s) N k r (fun P => (wpE_waitDma2_eq 𝒱₀ (c : Thread nD τ) none Set.univ P).trans (by rw [hN])) e
    (expect_dma m c k _ (Fin.succ_ne_zero r) h0) O hO

/-- A transfer to or from a slot named by a step counts as any other. -/
theorem credit_to (b : Memref sig .tc .vmem S16x32x512 .bf16) (hb : ∀ j, (slotM b j).view.dmaCredit = N) (r : Fin 15) : (toSlot b c r).view.dmaCredit = N :=
  (congrArg (fun v : Memref sig .tc .vmem S32x512 .bf16 => v.view.dmaCredit) (toSlot_eq b c r)).trans (hb _)

/-! ## First pass: the ready signals -/

/-- A ready signal needs its token and the landing slots it opens. -/
def pre0 (r : Fin 15) : sProp 𝕄 :=
  iprop(dutyTok ER (cell (nbr c r.succ) 0 (opp r.succ)) 0 ()
    ∗ (∃ X, owns (c : Thread nD τ) (slotM b7 (nbr c r.succ)) fullShare X) ∗ (∃ X, owns (c : Thread nD τ) (slotM b9 (nbr c r.succ)) fullShare X))

/-- One ready signal. -/
theorem step0 (R : CellTallies nD τ sig Unit) (r : Fin 15) (l : List (Fin 15)) :
    iprop(pre0 (F := F) c r ∗ Inv m K c (fun l => T 0 1 l c + R) (r :: l)) ⊢ wpc c (opReady c r) fun _ => iprop(emp ∗ Inv m K c (fun l => T 0 1 l c + R) l) := by
  unfold pre0 Inv opReady semSignalWord
  rw [dev1_eq, myReady_eq]
  iintro ⟨⟨Ht, H7, H9⟩, #HC, %W, Ho⟩
  ihave Hr := (record_at m K (nbr c r.succ) 0 (opp r.succ)) $$ HC
  rw [cell_far c 0 (by decide)]
  icases Hr with ⟨HI, Hr⟩
  iapply (Rounds.wp_signal 𝒱₀ ER (sched m) (c : Thread nD τ) none (dst := ((nbr c r.succ : Dev nD) : Thread nD τ)) (sem := rdyAt c) (r := 0) (d := ()) (k' := 1) (W := W)
      (κ := K (nbr c r.succ, some (0, opp r.succ)))
      (by have := duties_live m (nbr c r.succ) 0 (opp r.succ) (opp_succ_ne r)
          rw [cell_far c 0 (by decide)] at this
          exact this.symm ▸ Finset.mem_singleton_self _)
      (by have := amount_ready m (nbr c r.succ) (opp r.succ) ()
          rw [cell_far c 0 (by decide)] at this
          exact this)
      () (T 0 1 l c + R) (owed_step c 0 (by decide) 1 R r l)) $$ [HI Hr Ht H7 H9 Ho]
  · isplitl [HI]; · iexact HI
    isplitl [Ho]; · iexact Ho
    isplitl [Ht]; · iexact Ht
    isplitl [H7 H9]
    · ihave Hp := (Entails.of_eq (show iprop((∃ X, owns (c : Thread nD τ) (slotM b7 (nbr c r.succ)) fullShare X) ∗ (∃ X, owns (c : Thread nD τ) (slotM b9 (nbr c r.succ)) fullShare X))
          = (sched m).payload (((nbr c r.succ : Dev nD) : Thread nD τ), .reg (rdyAt c)) 0 () from by
          refine Eq.trans ?_ (hand_far m c 0 (by decide) r.succ ()).symm
          unfold hand; dsimp only; rw [nbr_opp])) $$ [H7 H9]
      · isplitl [H7] <;> iassumption
      iexact Hp
    iexact Hr
  iintro Ho
  rw [wp_ret]; imodintro
  isplitr; · iempintro
  isplitr; · iexact HC
  iexists W; iexact Ho

/-! ## Second pass: the partial rows leave -/

/-- A step of the second pass needs the ready signal's credit, the two tokens of its transfer and the rows to send. -/
def pre1 (r : Fin 15) : sProp 𝕄 :=
  iprop(cred (tallyAt (cell c 0 r.succ) () 1) ∗ atPos ER (cell c 0 r.succ) 0 ∅ 0
    ∗ dutyTok ER (cell (nbr c r.succ) 1 (opp r.succ)) 0 () ∗ dutyTok ER (cell c 3 r.succ) 0 ()
    ∗ owns (c : Thread nD τ) (slotM b6 (nbr c r.succ)) fullShare (prow m c (nbr c r.succ)))
/-- It leaves the ready cell done with, the departure's credit and the other device's gathering slot. -/
def post1 (r : Fin 15) : sProp 𝕄 :=
  iprop(atPos ER (cell c 0 r.succ) 1 ∅ 0 ∗ cred (tallyAt (cell c 3 r.succ) () N)
    ∗ ∃ X, owns ((nbr c r.succ : Dev nD) : Thread nD τ) (slotM b9 c) fullShare X)

/-- Waiting for a ready signal and sending the partial rows. -/
theorem step1 (R : CellTallies nD τ sig Unit) (hR : Above 2 R) (r : Fin 15) (l : List (Fin 15)) :
    iprop(pre1 m c r ∗ Inv m K c (fun l => T 1 N l c + R) (r :: l)) ⊢ wpc c (opSend c r) fun _ => iprop(post1 c r ∗ Inv m K c (fun l => T 1 N l c + R) l) := by
  unfold pre1 post1 Inv opSend semWaitWord
  simp only [Prog.lift, Prog.bind_op, Prog.bind_ret, Prog.pure_eq_ret]
  rw [toReady_eq]
  iintro ⟨⟨Hc, Hat, Ht1, Ht3, Hs⟩, #HC, Ho⟩
  iapply (wp_wait_at m K c (.reg (rdyAt (nbr c r.succ))) 1 0 r (wpE_semWait_eq 𝒱₀ (c : Thread nD τ) none Set.univ) (cell_near c 0 (by decide) _)
    (expect_ready m c _ (Fin.succ_ne_zero r)) (T 1 N (r :: l) c + R) (above_add (above_T 1 (by decide) _ _ _) hR)) $$ [Hc Hat Ho]
  · isplitr; · iexact HC
    isplitl [Hc]; · iexact Hc
    isplitl [Hat] <;> iassumption
  unfold hand; dsimp only
  iintro ⟨⟨%W, Ho⟩, Hat, ⟨%Y, H7⟩, H9⟩
  ihave Hr1 := (record_at m K (nbr c r.succ) 1 (opp r.succ)) $$ HC
  ihave Hr3 := (record_at m K c 3 r.succ) $$ HC
  rw [cell_far c 1 (by decide), cell_own c 3 (by decide)]
  icases Hr1 with ⟨HI1, Hr1⟩
  icases Hr3 with ⟨HI3, Hr3⟩
  iapply (wp_send_rows_of m c (nbr c r.succ) (slotM b6 (nbr c r.succ)) (slotM b7 c) (dmaAt cc0_scratch4 r.succ) (dmaAt cc0_scratch5 c)
      (T 1 N l c + R) (dev2_eq c r) (toSlot_eq _ c r) (mySlot_eq _ c) (distDma_eq _ r) (myDma_eq _ c) (credit7 c) (duty_own m c 3 (by decide) r) (duty_far m c 1 (by decide) r)
      (amount_own m c 3 (by decide) _ _) (amount_far m c 1 (by decide) (by decide) _ _) (owed_step c 1 (by decide) N R r l)
      (κ₁ := K (c, some (3, r.succ))) (κ₂ := K (nbr c r.succ, some (1, opp r.succ))) (q := fullShare) (X := prow m c (nbr c r.succ)) (Y := Y) (W := W)
      (hand_own m c 3 (by decide) r.succ ())
      ((hand_far m c 1 (by decide) r.succ ()).trans (by unfold hand; dsimp only; rw [nbr_opp]))) $$ [HI1 Hr1 HI3 Hr3 Ht1 Ht3 Hs H7 Ho]
  · isplitl [HI3]; · iexact HI3
    isplitl [HI1]; · iexact HI1
    isplitl [Hs]; · iexact Hs
    isplitl [H7]; · iexact H7
    isplitl [Ho]; · iexact Ho
    isplitl [Ht3]; · iexact Ht3
    isplitl [Hr3]; · iexact Hr3
    isplitl [Ht1]; · iexact Ht1
    iexact Hr1
  iintro ⟨Hc, Ho⟩
  unfold wpc
  rw [wp_ret]; imodintro
  isplitl [Hat Hc H9]
  · isplitl [Hat]; · iexact Hat
    isplitl [Hc]; · iexact Hc
    iexact H9
  isplitr; · iexact HC
  iexists W; iexact Ho

/-! ## Third pass: the other devices' partial rows arrive -/

/-- A step of the third pass needs its cell's credit. -/
def pre2 (r : Fin 15) : sProp 𝕄 := iprop(cred (tallyAt (cell c 1 r.succ) () N) ∗ atPos ER (cell c 1 r.succ) 0 ∅ 0)
/-- It leaves the rows received. -/
def post2 (r : Fin 15) : sProp 𝕄 :=
  iprop(atPos ER (cell c 1 r.succ) 1 ∅ 0 ∗ owns (c : Thread nD τ) (slotM b7 (nbr c r.succ)) fullShare (prow m (nbr c r.succ) c))

/-- Waiting for partial rows and adding them in. -/
theorem step2 (R : CellTallies nD τ sig Unit) (hR : Above 3 R) (r : Fin 15) (l : List (Fin 15)) (a : FVec F S32x512 .f32) :
    iprop(pre2 c r ∗ Inv m K c (fun _ => R) (r :: l)) ⊢ wpc c (opRecv c r a) fun b => iprop(⌜b = addStep m c a r⌝ ∗ post2 m c r ∗ Inv m K c (fun _ => R) l) := by
  unfold pre2 post2 Inv opRecv
  simp only [Prog.lift, Prog.bind_op, Prog.bind_ret, Prog.pure_eq_ret]
  rw [toDma_eq]
  iintro ⟨⟨Hc, Hat⟩, #HC, Ho⟩
  iapply (wp_wait_rows m K c 1 r (by decide) (dmaAt cc0_scratch5 (nbr c r.succ)) (credit_to c b7 credit7 r) (cell_near c 1 (by decide) _)
    R hR) $$ [Hc Hat Ho]
  · isplitr; · iexact HC
    isplitl [Hc]; · iexact Hc
    isplitl [Hat] <;> iassumption
  unfold hand; dsimp only
  iintro ⟨Ho, Hat, H⟩
  iapply (wp_load_slot c b7 (nbr c r.succ) (off7_eq c r) (prow m (nbr c r.succ) c)) $$ H
  iintro H
  unfold wpc
  rw [wp_ret]; imodintro
  isplitr; · ipureintro; rfl
  isplitl [Hat H]
  · isplitl [Hat] <;> iassumption
  isplitr; · iexact HC
  iexact Ho

/-! ## Fourth pass: the summed rows leave -/

/-- A step of the fourth pass needs its transfer's two tokens, a share of the summed rows and the slot to write. -/
def pre3 (r : Fin 15) : sProp 𝕄 :=
  iprop(dutyTok ER (cell (nbr c r.succ) 2 (opp r.succ)) 0 () ∗ dutyTok ER (cell c 4 r.succ) 0 ()
    ∗ owns (c : Thread nD τ) b8 (ShareLeaves.leaf 4 fullShare r.succ) (brow m c) ∗ ∃ X, owns ((nbr c r.succ : Dev nD) : Thread nD τ) (slotM b9 c) fullShare X)
/-- It leaves the departure's credit. -/
def post3 (r : Fin 15) : sProp 𝕄 := cred (tallyAt (cell c 4 r.succ) () N)

/-- Sending the summed rows. -/
theorem step3 (r : Fin 15) (l : List (Fin 15)) :
    iprop(pre3 m c r ∗ Inv m K c (fun l => T 2 N l c + 0) (r :: l)) ⊢ wpc c (opBcast c r) fun _ => iprop(post3 c r ∗ Inv m K c (fun l => T 2 N l c + 0) l) := by
  unfold pre3 post3 Inv opBcast
  simp only [Prog.lift, Prog.bind_op, Prog.bind_ret, Prog.pure_eq_ret]
  iintro ⟨⟨Ht2, Ht4, Hs, %Y, H9⟩, #HC, %W, Ho⟩
  ihave Hr2 := (record_at m K (nbr c r.succ) 2 (opp r.succ)) $$ HC
  ihave Hr4 := (record_at m K c 4 r.succ) $$ HC
  rw [cell_far c 2 (by decide), cell_own c 4 (by decide)]
  icases Hr2 with ⟨HI2, Hr2⟩
  icases Hr4 with ⟨HI4, Hr4⟩
  iapply (wp_send_rows_of m c (nbr c r.succ) b8 (slotM b9 c) (dmaAt cc0_scratch6 r.succ) (dmaAt cc0_scratch7 c)
      (T 2 N l c + 0) (dev3_eq c r) rfl (mySlot_eq _ c) (distDma_eq _ r) (myDma_eq _ c) (credit9 c) (duty_own m c 4 (by decide) r) (duty_far m c 2 (by decide) r)
      (amount_own m c 4 (by decide) _ _) (amount_far m c 2 (by decide) (by decide) _ _) (owed_step c 2 (by decide) N 0 r l)
      (κ₁ := K (c, some (4, r.succ))) (κ₂ := K (nbr c r.succ, some (2, opp r.succ))) (q := ShareLeaves.leaf 4 fullShare r.succ) (X := brow m c) (Y := Y) (W := W)
      (hand_own m c 4 (by decide) r.succ ())
      ((hand_far m c 2 (by decide) r.succ ()).trans (by unfold hand; dsimp only; rw [nbr_opp]))) $$ [HI2 Hr2 HI4 Hr4 Ht2 Ht4 Hs H9 Ho]
  · isplitl [HI4]; · iexact HI4
    isplitl [HI2]; · iexact HI2
    isplitl [Hs]; · iexact Hs
    isplitl [H9]; · iexact H9
    isplitl [Ho]; · iexact Ho
    isplitl [Ht4]; · iexact Ht4
    isplitl [Hr4]; · iexact Hr4
    isplitl [Ht2]; · iexact Ht2
    iexact Hr2
  iintro ⟨Hc, Ho⟩
  unfold wpc
  rw [wp_ret]; imodintro
  isplitl [Hc]; · iexact Hc
  isplitr; · iexact HC
  iexists W; iexact Ho

/-! ## Fifth pass: the other devices' summed rows arrive -/

/-- A step of the fifth pass needs its cell's credit. -/
def pre4 (r : Fin 15) : sProp 𝕄 := iprop(cred (tallyAt (cell c 2 r.succ) () N) ∗ atPos ER (cell c 2 r.succ) 0 ∅ 0)
/-- It leaves the rows received. -/
def post4 (r : Fin 15) : sProp 𝕄 :=
  iprop(atPos ER (cell c 2 r.succ) 1 ∅ 0 ∗ owns (c : Thread nD τ) (slotM b9 (nbr c r.succ)) fullShare (brow m (nbr c r.succ)))

/-- Waiting for summed rows. -/
theorem step4 (r : Fin 15) (l : List (Fin 15)) :
    iprop(pre4 c r ∗ Inv m K c (fun _ => 0) (r :: l)) ⊢ wpc c (opGather c r) fun _ => iprop(post4 m c r ∗ Inv m K c (fun _ => 0) l) := by
  unfold pre4 post4 Inv opGather
  simp only [Prog.lift, Prog.bind_op, Prog.bind_ret, Prog.pure_eq_ret]
  rw [toDma_eq]
  iintro ⟨⟨Hc, Hat⟩, #HC, Ho⟩
  iapply (wp_wait_rows m K c 2 r (by decide) (dmaAt cc0_scratch7 (nbr c r.succ)) (credit_to c b9 credit9 r) (cell_near c 2 (by decide) _)
    0 (above_zero _)) $$ [Hc Hat Ho]
  · isplitr; · iexact HC
    isplitl [Hc]; · iexact Hc
    isplitl [Hat] <;> iassumption
  unfold hand; dsimp only
  iintro ⟨Ho, Hat, H⟩
  unfold wpc
  rw [wp_ret]; imodintro
  isplitl [Hat H]
  · isplitl [Hat] <;> iassumption
  isplitr; · iexact HC
  iexact Ho

/-! ## Sixth pass: this device's own transfers are done -/

/-- A step of the sixth pass needs the credits of its two departures. -/
def pre5 (r : Fin 15) : sProp 𝕄 :=
  iprop(cred (tallyAt (cell c 3 r.succ) () N) ∗ atPos ER (cell c 3 r.succ) 0 ∅ 0 ∗ cred (tallyAt (cell c 4 r.succ) () N) ∗ atPos ER (cell c 4 r.succ) 0 ∅ 0)
/-- It leaves the rows that were sent. -/
def post5 (r : Fin 15) : sProp 𝕄 :=
  iprop(atPos ER (cell c 3 r.succ) 1 ∅ 0 ∗ atPos ER (cell c 4 r.succ) 1 ∅ 0
    ∗ owns (c : Thread nD τ) (slotM b6 (nbr c r.succ)) fullShare (prow m c (nbr c r.succ)) ∗ owns (c : Thread nD τ) b8 (ShareLeaves.leaf 4 fullShare r.succ) (brow m c))

/-- Waiting for the two departures. -/
theorem step5 (r : Fin 15) (l : List (Fin 15)) :
    iprop(pre5 c r ∗ Inv m K c (fun _ => 0) (r :: l)) ⊢ wpc c (opDone c r) fun _ => iprop(post5 m c r ∗ Inv m K c (fun _ => 0) l) := by
  unfold pre5 post5 Inv opDone
  simp only [Prog.lift, Prog.bind_op, Prog.bind_ret, Prog.pure_eq_ret]
  rw [distDma_eq, distDma_eq]
  iintro ⟨⟨Hc, Hat, Hc', Hat'⟩, #HC, Ho⟩
  iapply (wp_wait_rows m K c 3 r (by decide) (dmaAt cc0_scratch4 r.succ) (credit_to c b6 credit6 r) (cell_own c 3 (by decide) _)
    0 (above_zero _)) $$ [Hc Hat Ho]
  · isplitr; · iexact HC
    isplitl [Hc]; · iexact Hc
    isplitl [Hat] <;> iassumption
  iintro ⟨Ho, Hat, H⟩
  iapply (wp_wait_rows m K c 4 r (by decide) (dmaAt cc0_scratch6 r.succ) rfl (cell_own c 4 (by decide) _)
    0 (above_zero _)) $$ [Hc' Hat' Ho]
  · isplitr; · iexact HC
    isplitl [Hc']; · iexact Hc'
    isplitl [Hat'] <;> iassumption
  iintro ⟨Ho, Hat', H'⟩
  unfold hand wpc; dsimp only
  rw [wp_ret]; imodintro
  isplitl [Hat Hat' H H']
  · isplitl [Hat]; · iexact Hat
    isplitl [Hat']; · iexact Hat'
    isplitl [H] <;> iassumption
  isplitr; · iexact HC
  iexact Ho

end Cert.KernelIdeal.Moe

end
-- ==== Proof.KernelIdeal.Pieces.lean ====
/-
What the body's passes take and leave, gathered over the fifteen steps, and the sixteen-slot buffers dealt by distance.
-/
module

public import proofs.«01_k».proof.Proof.KernelIdeal.Loops

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × Option (Fin 5 × Fin 16) → ℕ) (c : Dev nD)

/-- `Φ` at every step. -/
abbrev every (Φ : Fin 15 → sProp 𝕄) : sProp 𝕄 := bigSep Finset.univ Φ

/-- The devices by their distance from `c`. -/
def around (c : Dev nD) : Fin 16 ≃ Dev nD := ⟨nbr c, fun j => nbr j (opp c), sub_nbr c, nbr_sub c⟩
/-- At distance zero is the device itself. -/
theorem nbr_zero : ∀ c : Dev nD, nbr c 0 = c := by decide

omit [FloatOps F] in
/-- Over the distances: distance zero and the fifteen steps. -/
theorem sep_dist (Φ : Fin 16 → sProp 𝕄) : bigSep Finset.univ Φ = iprop(Φ 0 ∗ every fun r => Φ r.succ) := bigSep_univ_succ Φ
omit [FloatOps F] in
/-- Over the devices: this one and those of the fifteen steps. -/
theorem sep_dev (Φ : Dev nD → sProp 𝕄) : bigSep Finset.univ Φ = iprop(Φ c ∗ every fun r => Φ (nbr c r.succ)) := by
  rw [bigSep_univ_equiv (around c), sep_dist]
  show iprop(Φ (nbr c 0) ∗ _) = _
  rw [nbr_zero]; rfl

omit [FloatOps F] in
/-- Something known is used at every entry. -/
theorem sep_with {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  have hb : iprop(bigSep S (fun _ => R) ∗ bigSep S Φ) ⊢ bigSep S Ψ := by rw [← bigSep_sep']; exact bigSep_mono fun i _ => h i
  iintro ⟨HR, H⟩
  iapply hb
  isplitl [HR]
  · iapply (BI.bigSep_of_persistent S R); iexact HR
  iexact H

/-! ## Slots -/

omit [FloatOps F] in
/-- A sixteen-slot buffer dealt: this device's slot and the fifteen others. -/
theorem deal (b : Memref sig .tc .vmem S16x32x512 .bf16) (X : S16x32x512.Idx → Elt F .bf16) :
    (owns (c : Thread nD τ) b fullShare X : sProp 𝕄)
      ⊢ iprop(owns (c : Thread nD τ) (slotM b c) fullShare (rowOf X c) ∗ every fun r => owns (c : Thread nD τ) (slotM b (nbr c r.succ)) fullShare (rowOf X (nbr c r.succ))) :=
  (slots_split c b fullShare X).trans (Entails.of_eq (sep_dev c _))
omit [FloatOps F] in
/-- The same, the contents forgotten. -/
theorem deal_any (b : Memref sig .tc .vmem S16x32x512 .bf16) (X : S16x32x512.Idx → Elt F .bf16) :
    (owns (c : Thread nD τ) b fullShare X : sProp 𝕄)
      ⊢ iprop((∃ Y, owns (c : Thread nD τ) (slotM b c) fullShare Y) ∗ every fun r => iprop(∃ Y, owns (c : Thread nD τ) (slotM b (nbr c r.succ)) fullShare Y)) := by
  have h : ∀ r : Fin 15, (owns (c : Thread nD τ) (slotM b (nbr c r.succ)) fullShare (rowOf X (nbr c r.succ)) : sProp 𝕄)
      ⊢ iprop(∃ Y, owns (c : Thread nD τ) (slotM b (nbr c r.succ)) fullShare Y) := fun r => by iintro H; iexists _; iexact H
  refine (deal c b X).trans ?_
  iintro ⟨H0, H⟩
  isplitl [H0]; · iexists _; iexact H0
  iapply (show every (fun r => (owns (c : Thread nD τ) (slotM b (nbr c r.succ)) fullShare (rowOf X (nbr c r.succ)) : sProp 𝕄)) ⊢ _ from bigSep_mono fun r _ => h r)
  iexact H
/-- Sixteen slots gathered, this device's own holding anything. -/
theorem gather [∀ e, Nonempty (Elt F e)] (b : Memref sig .tc .vmem S16x32x512 .bf16) (Y : S32x512.Idx → Elt F .bf16) (Z : Dev nD → S32x512.Idx → Elt F .bf16) :
    iprop(owns (c : Thread nD τ) (slotM b c) fullShare Y ∗ every fun r => owns (c : Thread nD τ) (slotM b (nbr c r.succ)) fullShare (Z (nbr c r.succ)))
      ⊢ (owns (c : Thread nD τ) b fullShare (stack (Function.update Z c Y)) : sProp 𝕄) := by
  refine Entails.trans (Entails.of_eq ?_) (slots_join c b fullShare (stack (Function.update Z c Y)))
  rw [sep_dev c, rowOf_stack, Function.update_self]
  congr 1
  refine bigSep_congr fun r _ => ?_
  rw [rowOf_stack, Function.update_of_ne]
  intro h
  have := sub_nbr c r.succ
  rw [h] at this
  exact succ_ne r (this.symm.trans ((show ∀ c : Dev nD, nbr c (opp c) = 0 from by decide) c))

/-- The sixteenth part of a share for distance `o`. -/
abbrev part (o : Fin 16) : PosShare TreeShare := ShareLeaves.leaf 4 fullShare o
omit [FloatOps F] in
/-- The summed rows are held by sixteenths: one stays, one goes along with each transfer. -/
theorem shares (X : S32x512.Idx → Elt F .bf16) :
    (owns (c : Thread nD τ) b8 fullShare X : sProp 𝕄) = iprop(owns (c : Thread nD τ) b8 (part 0) X ∗ every fun r => owns (c : Thread nD τ) b8 (part r.succ) X) := by
  rw [owns_whole]
  refine (ShareLeaves.pointsTo_leaves (Ix := Unit) (Name := ℕ) (U := UU) (Lvl := ℕ) Finset.univ _ 4 fullShare).trans ?_
  refine (sep_dist _).trans ?_
  rw [owns_whole]
  congr 1
  exact bigSep_congr fun r _ => (owns_whole _ _ _ _).symm

/-! ## The passes -/

/-- Running `p` and then `k`. -/
theorem wp_then {α β : Type} {Q : β → sProp 𝕄} {P : sProp 𝕄} {p : Prog (BodyEff F) α} {Q' : α → sProp 𝕄} (h : P ⊢ wpc c p Q') (k : α → Prog (BodyEff F) β) :
    P ⊢ iprop((∀ a, Q' a -∗ wpc c (k a) Q) -∗ wpc c (p >>= k) Q) := by
  unfold wpc at h ⊢
  rw [wp_bind]
  iintro HP Hk
  ihave Hw := h $$ HP
  iapply (wp_wand frame (wpE (defs₀ (F := F)) 𝒱₀ (c : Thread nD τ) none) Set.univ) $$ Hw
  iexact Hk

/-- A whole pass, then the rest. -/
theorem wp_pass {β : Type} {Q : β → sProp 𝕄} (f : Fin 15 → Prog (BodyEff F) PUnit) (Pre Post : Fin 15 → sProp 𝕄) (I : List (Fin 15) → CellTallies nD τ sig Unit)
    (h : ∀ r l, iprop(Pre r ∗ Inv m K c I (r :: l)) ⊢ wpc c (f r) fun _ => iprop(Post r ∗ Inv m K c I l)) (k : PUnit → Prog (BodyEff F) β) :
    iprop(every Pre ∗ Inv m K c I steps) ⊢ iprop((every Post -∗ Inv m K c I [] -∗ wpc c (k ⟨⟩) Q) -∗ wpc c (each f steps >>= k) Q) := by
  have h' := wp_each c f Pre Post (Inv m K c I) h steps
  rw [sepL_steps, sepL_steps] at h'
  iintro HP Hk
  iapply (wp_then c h' k) $$ HP
  iintro %a ⟨Hq, HI⟩
  iapply Hk $$ Hq
  iexact HI

/-- A whole pass threading a value, then the rest. -/
theorem wp_passWith {α β : Type} {Q : β → sProp 𝕄} (f : Fin 15 → α → Prog (BodyEff F) α) (g : α → Fin 15 → α) (Pre Post : Fin 15 → sProp 𝕄) (I : List (Fin 15) → CellTallies nD τ sig Unit)
    (h : ∀ r l a, iprop(Pre r ∗ Inv m K c I (r :: l)) ⊢ wpc c (f r a) fun b => iprop(⌜b = g a r⌝ ∗ Post r ∗ Inv m K c I l)) (a : α) (k : α → Prog (BodyEff F) β) :
    iprop(every Pre ∗ Inv m K c I steps) ⊢ iprop((every Post -∗ Inv m K c I [] -∗ wpc c (k (steps.foldl g a)) Q) -∗ wpc c (eachWith f steps a >>= k) Q) := by
  have h' := wp_eachWith c f g Pre Post (Inv m K c I) h steps a
  rw [sepL_steps, sepL_steps] at h'
  iintro HP Hk
  iapply (wp_then c h' k) $$ HP
  iintro %b ⟨%hb, Hq, HI⟩
  subst hb
  iapply Hk $$ Hq
  iexact HI

/-- What is owed may be written differently. -/
theorem inv_owed {O O' : List (Fin 15) → CellTallies nD τ sig Unit} {l l' : List (Fin 15)} (h : O l = O' l') : Inv m K c O l ⊢ Inv m K c O' l' := by
  unfold Inv; rw [h]

/-! ## Closing the cells -/

/-- Each kind's sixteen cells are closed when their signals have come. -/
theorem close_kind (k : Fin 5) :
    iprop(Ctx m K ∗ atPos ER (cell c k 0) 0 ∅ 0 ∗ every fun r => atPos ER (cell c k r.succ) 1 ∅ 0)
      ⊢ |={Set.univ}=> (bigSep Finset.univ fun o : Fin 16 => semVal (cell c k o) 0 : sProp 𝕄) := by
  iintro ⟨#HC, H0, H⟩
  ihave H' := (sep_with (R := Ctx m K) (S := Finset.univ) (Φ := fun r : Fin 15 => iprop(atPos ER (cell c k r.succ) 1 ∅ 0))
    (Ψ := fun r : Fin 15 => iprop(|={Set.univ}=> semVal (cell c k r.succ) 0)) fun r => by
      iintro ⟨#HC, H⟩
      ihave Hr := (record_at m K c k r.succ) $$ HC
      icases Hr with ⟨HI, -⟩
      iapply (Rounds.cell_close ER (sched m) (Set.mem_univ _) (fun h => h) (R := 1) (duties_later m _))
      isplitl [HI] <;> iassumption) $$ [H]
  · isplitr; · iexact HC
    iexact H
  imod (bigSep_fupd Finset.univ fun r : Fin 15 => (semVal (cell c k r.succ) 0 : sProp 𝕄)) $$ H' with H'
  ihave Hr := (record_at m K c k 0) $$ HC
  icases Hr with ⟨HI, -⟩
  imod (Rounds.cell_close ER (sched m) (Set.mem_univ _) (fun h => h) (R := 0) (fun R _ => duties_dead m c k R)) $$ [HI H0] with H0
  · isplitl [HI] <;> iassumption
  imodintro
  rw [sep_dist]
  isplitl [H0]; · iexact H0
  iexact H'

/-- The barrier is closed. -/
theorem close_bar : iprop(Ctx m K ∗ atPos ER (bar c) 1 ∅ 0) ⊢ |={Set.univ}=> (semVal (bar c) 0 : sProp 𝕄) := by
  iintro ⟨#HC, H⟩
  ihave Hr := (record_bar m K c) $$ HC
  icases Hr with ⟨HI, -⟩
  iapply (Rounds.cell_close ER (sched m) (Set.mem_univ _) (fun h => h) (R := 1) (duties_later m _))
  isplitl [HI] <;> iassumption

end Cert.KernelIdeal.Moe

end
-- ==== Proof.KernelIdeal.Out.lean ====
/-
The result buffer: what the last two stores leave in it.
-/
module

public import proofs.«01_k».proof.Proof.KernelIdeal.Pieces

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (c : Dev nD)

/-- The slot a row of the result lies in. -/
abbrev slotOf (i : Fin 512) : Fin 16 := ⟨i.val / 32, by omega⟩
/-- Its place in the slot. -/
abbrev inSlot (i : Fin 512) : Fin 32 := ⟨i.val % 32, by omega⟩

/-- The gathered rows as the result stores them. -/
theorem pay23_apply (all : Vec F S16x32x512 .bf16) (i j : Fin 512) :
    k0_pay23 all (ix2 i j) = (extf .f32 all bitsLt_bf16_f32 : FVec F S16x32x512 .f32) (ix3 (slotOf i) (inSlot i) j) := by
  refine shapeCast_apply (extf .f32 all bitsLt_bf16_f32 : FVec F S16x32x512 .f32) shapeCasts_S16x32x512_S512x512 (ix2 i j) (ix3 (slotOf i) (inSlot i) j) ?_
  rw [Shape.rowMajor_val_three, Shape.rowMajor_val_two]
  show ((i.val / 32) * 32 + i.val % 32) * 512 + j.val = i.val * 512 + j.val
  omega

omit [FloatOps F] in
/-- Thirty-two rows stored over the result: those rows change, the others stay. -/
theorem write_rows_at (off : Fin 2 → ℕ) (hi : ∀ a, off a + S32x512.size a ≤ S512x512.size a) (ho : off = ![32 * c.val, 0])
    (f : S512x512.Idx → Elt F .f32) (w : S32x512.Idx → Elt F .f32) (i j : Fin 512) :
    ((Memref.whole cc0_stg5_0).access (Rect.unit (s := S512x512) off S32x512.size hi) : View sig .tc _ _ _).write (Elt F) f w Finset.univ (ix2 i j)
      = if slotOf i = c then w (ix2 (inSlot i) j) else f (ix2 i j) := by
  subst ho
  have e : ((Memref.whole cc0_stg5_0).access (Rect.unit (s := S512x512) ![32 * c.val, 0] S32x512.size hi) : View sig .tc _ _ _).write (Elt F) f w Finset.univ
      = updateSlice (s := S512x512) f w ![32 * c.val, 0] ⟨rfl, hi⟩ := View.write_whole_slice_unit cc0_stg5_0 _ S32x512.size hi f w
  rw [e]
  unfold updateSlice
  have hd : i.val / 32 = c.val ↔ 32 * c.val ≤ i.val ∧ i.val < 32 * c.val + 32 := by omega
  split
  · next h =>
    have h0 : 32 * c.val ≤ i.val ∧ i.val < 32 * c.val + 32 := h 0
    rw [if_pos (Fin.ext (hd.mpr h0))]
    congr 1
    funext a
    refine Fin.ext ?_
    match a with
    | ⟨0, _⟩ => show i.val - 32 * c.val = i.val % 32; omega
    | ⟨1, _⟩ => rfl
  · next h =>
    rw [if_neg]
    intro hs
    apply h
    have hs' := hd.mp (congrArg Fin.val hs)
    intro a
    match a with
    | ⟨0, _⟩ => exact hs'
    | ⟨1, _⟩ => exact ⟨Nat.zero_le _, j.isLt.trans_eq (Nat.zero_add _).symm⟩

omit [FloatOps F] in
/-- The same at the place the body computes. -/
theorem write_rows (f : S512x512.Idx → Elt F .f32) (w : S32x512.Idx → Elt F .f32) (i j : Fin 512) :
    ((Memref.whole cc0_stg5_0).access (Rect.unit (s := S512x512) (k0_off8 c) S32x512.size (k0_off8_inb c)) : View sig .tc _ _ _).write (Elt F) f w Finset.univ (ix2 i j)
      = if slotOf i = c then w (ix2 (inSlot i) j) else f (ix2 i j) :=
  write_rows_at c _ (k0_off8_inb c) (k0_off8_eq c) f w i j

/-- The device's own slot of the gathered rows does not reach the result. -/
theorem out_own (Y : S32x512.Idx → Elt F .bf16) :
    ((Memref.whole cc0_stg5_0).access (Rect.unit (s := S512x512) (k0_off8 c) S32x512.size (k0_off8_inb c)) : View sig .tc _ _ _).write (Elt F)
      (k0_pay23 (stack (Function.update (fun j => brow m j) c Y))) (red m c) Finset.univ = outAt m c := by
  unfold outAt
  funext x
  obtain ⟨i, j, rfl⟩ : ∃ i j, x = ix2 i j := ⟨x 0, x 1, eq_ix2 x⟩
  rw [write_rows, write_rows]
  by_cases h : slotOf i = c
  · rw [if_pos h, if_pos h]
  · rw [if_neg h, if_neg h, pay23_apply, pay23_apply]
    have hs : stack (Function.update (fun j => brow m j) c Y) (ix3 (slotOf i) (inSlot i) j) = stack (fun j => brow m j) (ix3 (slotOf i) (inSlot i) j) := by
      show Function.update (fun j => brow m j) c Y (slotOf i) _ = brow m (slotOf i) _
      rw [Function.update_of_ne h]
    exact congrArg (FloatOps.extf .f32 bitsLt_bf16_f32) hs

end Cert.KernelIdeal.Moe

end
-- ==== Proof.KernelIdeal.Body.lean ====
/-
A device's whole run of the body: from what it holds when it starts to what it leaves.
-/
module

public import proofs.«01_k».proof.Proof.KernelIdeal.Out

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × Option (Fin 5 × Fin 16) → ℕ) (c : Dev nD)

/-- What a device starts a step's cells with: its positions, the tokens of the signals it is to give, and the credit of
    those the others are to give it. -/
def per (r : Fin 15) : sProp 𝕄 :=
  iprop(atPos ER (cell c 0 r.succ) 0 ∅ 0 ∗ atPos ER (cell c 1 r.succ) 0 ∅ 0 ∗ atPos ER (cell c 2 r.succ) 0 ∅ 0 ∗ atPos ER (cell c 3 r.succ) 0 ∅ 0 ∗ atPos ER (cell c 4 r.succ) 0 ∅ 0
    ∗ dutyTok ER (cell (nbr c r.succ) 0 (opp r.succ)) 0 () ∗ dutyTok ER (cell (nbr c r.succ) 1 (opp r.succ)) 0 () ∗ dutyTok ER (cell (nbr c r.succ) 2 (opp r.succ)) 0 ()
    ∗ dutyTok ER (cell c 3 r.succ) 0 () ∗ dutyTok ER (cell c 4 r.succ) 0 ()
    ∗ cred (tallyAt (cell c 0 r.succ) () 1) ∗ cred (tallyAt (cell c 1 r.succ) () N) ∗ cred (tallyAt (cell c 2 r.succ) () N))

/-- The positions at distance zero. -/
def idle : sProp 𝕄 :=
  iprop(atPos ER (cell c 0 0) 0 ∅ 0 ∗ atPos ER (cell c 1 0) 0 ∅ 0 ∗ atPos ER (cell c 2 0) 0 ∅ 0 ∗ atPos ER (cell c 3 0) 0 ∅ 0 ∗ atPos ER (cell c 4 0) 0 ∅ 0)

/-- All of a device's ghost state at the start. -/
def ghost : sProp 𝕄 :=
  iprop((atPos ER (bar c) 0 ∅ 0 ∗ dutyTok ER (bar c) 0 () ∗ cred (tallyAt (bar c) () 1)) ∗ idle c ∗ every (per c))

/-- A buffer of the device at given contents. -/
abbrev pts (b : Ref sig .tc) (f : b.ty.Contents (Elt F)) : sProp 𝕄 := ((c : Thread nD τ).loc b) ↦{fullShare} f

/-- The four scratch buffers, holding anything. -/
def scr : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

/-- The five inputs as fetched. -/
def ins : sProp 𝕄 :=
  iprop(pts c cc0_stg0_0 (inX m c) ∗ pts c cc0_stg1_0 (inR m c) ∗ pts c cc0_stg2_0 (inI m c) ∗ pts c cc0_stg3_0 (inE m c) ∗ pts c cc0_stg4_0 (inS m c))

/-- All of a device's cells closed. -/
def closed : sProp 𝕄 :=
  iprop(semVal (bar c) 0 ∗ (bigSep Finset.univ fun o : Fin 16 => semVal (cell c 0 o) 0) ∗ (bigSep Finset.univ fun o : Fin 16 => semVal (cell c 1 o) 0)
    ∗ (bigSep Finset.univ fun o : Fin 16 => semVal (cell c 2 o) 0) ∗ (bigSep Finset.univ fun o : Fin 16 => semVal (cell c 3 o) 0)
    ∗ (bigSep Finset.univ fun o : Fin 16 => semVal (cell c 4 o) 0))

omit [FloatOps F] in
/-- The zero offset of a plane. -/
theorem off00 : (![0, 0] : Fin 2 → ℕ) = fun _ => 0 := funext fun a => by fin_cases a <;> rfl
omit [FloatOps F] in
/-- The zero offset of a stack of planes. -/
theorem off000 : (![0, 0, 0] : Fin 3 → ℕ) = fun _ => 0 := funext fun a => by fin_cases a <;> rfl

/-- A load of what is known to read as `g`. -/
theorem wp_get {α : Type} {Q : α → sProp 𝕄} {s : Shape} {e : EltTy} (v : Memref sig .tc .vmem s e) {r : LoadRect s} {hl : v.view.LoadsAt r}
    {f : Buf (Elt F) (v.view.loc (c : Thread nD τ))} {g : r.shape.Idx → Elt F e} (h : v.view.readAt (Elt F) r f = g) {k : (r.shape.Idx → Elt F e) → Prog (BodyEff F) α} :
    (v.view.loc (c : Thread nD τ) ↦{fullShare} f : sProp 𝕄) ⊢ iprop(((v.view.loc (c : Thread nD τ) ↦{fullShare} f) -∗ wpc c (k g) Q) -∗ wpc c (.op (.load v r hl) k) Q) := by
  subst h
  exact wp_load 𝒱₀ (c : Thread nD τ) none Set.univ (m := v) (Finset.subset_univ _)

/-- The device signals its own barrier and waits for that. -/
theorem wp_barrier {α : Type} {Q : α → sProp 𝕄} (O : CellTallies nD τ sig Unit) (hO : Above 1 O) (k : PUnit → Prog (BodyEff F) α) :
    iprop(Ctx m K ∗ (∃ W, owes (c : Thread nD τ) (O + tallyAt (bar c) () 1) W) ∗ atPos ER (bar c) 0 ∅ 0 ∗ dutyTok ER (bar c) 0 () ∗ cred (tallyAt (bar c) () 1))
      ⊢ iprop(((∃ W, owes (c : Thread nD τ) O W) -∗ atPos ER (bar c) 1 ∅ 0 -∗ wpc c (k ⟨⟩) Q)
          -∗ wpc c (.op .deviceId fun d => .op (.semSignal (d, .tc) barSem (1#32).toInt) fun _ => .op (.semWait barSem (1#32).toInt) k) Q) := by
  iintro ⟨#HC, ⟨%W, Ho⟩, Hat, Ht, Hc⟩ Hk
  ihave Hr := (record_bar m K c) $$ HC
  icases Hr with ⟨#HI, #Hr⟩
  unfold wpc
  simp only [wp_deviceId]
  iapply (Rounds.wp_signal 𝒱₀ ER (sched m) (c : Thread nD τ) none (dst := (c : Thread nD τ)) (sem := barSem) (r := 0) (d := ()) (k' := 1) (W := W)
      (κ := K (c, none)) (by have := duties_bar m c; unfold bar at this; rw [this]; exact Finset.mem_singleton_self _) (amount_bar m c ()) () O rfl) $$ [Ho Ht]
  · isplitr; · iexact HI
    isplitl [Ho]; · iexact Ho
    isplitl [Ht]; · iexact Ht
    isplitr
    · ihave Hp := (Entails.of_eq (show iprop(emp) = (sched m).payload ((c : Thread nD τ), .reg barSem) 0 () from (payload_bar m c ()).symm)) $$ []
      · iempintro
      iexact Hp
    iexact Hr
  iintro Ho
  iapply (wp_wait_cell m c (C := Ctx m K) (ctx_lev m K) (sm := .reg barSem) (v := 1) (wpE_semWait_eq 𝒱₀ (c : Thread nD τ) none Set.univ) (κ := K (c, none)) (O := O) (W := W) (H := iprop(emp))
    (expect_bar m c) (by have := lv_bar c (); unfold bar at this; rw [this]; exact hO) (rest_bar m c)) $$ [Hc Hat Ho]
  · isplitr; · iexact HI
    isplitr; · iexact HC
    isplitl [Hc]; · iexact Hc
    isplitl [Hat]; · iexact Hat
    iexact Ho
  iintro ⟨Ho, Hat, -⟩
  iapply Hk $$ [Ho]
  · iexists _; iexact Ho
  iexact Hat

set_option maxHeartbeats 4000000 in
/-- The body of device `c`. -/
theorem run_phases [∀ e, Nonempty (Elt F e)] :
    iprop(Ctx m K ∗ ghost c ∗ (∃ W, owes (c : Thread nD τ) (O₀ c) W) ∗ scr c ∗ ins m c ∗ ∃ g, pts c cc0_stg5_0 g)
      ⊢ wpc c (phases (Memref.whole cc0_stg0_0) (Memref.whole cc0_stg1_0) (Memref.whole cc0_stg2_0) (Memref.whole cc0_stg3_0) (Memref.whole cc0_stg4_0) (Memref.whole cc0_stg5_0))
          fun _ => iprop(closed c ∗ (∃ W, owes (c : Thread nD τ) 0 W) ∗ scr c ∗ ins m c ∗ pts c cc0_stg5_0 (outAt m c)) := by
  unfold phases
  simp only [semSignalHereWord, semWaitWord, Prog.lift, Prog.bind_op, Prog.bind_ret, Prog.pure_eq_ret]
  unfold wpc
  simp only [wp_deviceId]
  unfold ghost idle per scr ins
  simp only [bigSep_sep']
  iintro ⟨#HC, ⟨⟨HatB, HtB, HcB⟩, ⟨Hz0, Hz1, Hz2, Hz3, Hz4⟩, Ha0, Ha1, Ha2, Ha3, Ha4, Ht0, Ht1, Ht2, Ht3, Ht4, Hc0, Hc1, Hc2⟩, Ho, ⟨⟨%f6, H6⟩, ⟨%f7, H7⟩, ⟨%f8, H8⟩, ⟨%f9, H9⟩⟩, ⟨Hx, Hr, Hi, He, Hs⟩, %g, Hout⟩
  -- the first pass
  ihave H7 := (Entails.of_eq (owns_whole (c : Thread nD τ) cc0_scratch1 fullShare f7).symm) $$ H7
  ihave H7 := (deal_any c b7 f7) $$ H7
  icases H7 with ⟨⟨%Y7, H7o⟩, H7⟩
  ihave H9 := (Entails.of_eq (owns_whole (c : Thread nD τ) cc0_scratch3 fullShare f9).symm) $$ H9
  ihave H9 := (deal_any c b9 f9) $$ H9
  icases H9 with ⟨⟨%Y9, H9o⟩, H9⟩
  iapply (wp_pass m K c (opReady c) (pre0 c) (fun _ => iprop(emp)) _ (step0 m K c (tallyAt (bar c) () 1 + (T 1 N steps c + T 2 N steps c)))) $$ [Ht0 H7 H9 Ho]
  · unfold pre0 Inv
    simp only [bigSep_sep']
    isplitl [Ht0 H7 H9]
    · isplitl [Ht0]; · iexact Ht0
      isplitl [H7] <;> iassumption
    isplitr; · iexact HC
    iexact Ho
  iintro - HI
  ihave HI := (inv_owed m K c (O' := fun _ => (T 1 N steps c + T 2 N steps c) + tallyAt (bar c) () 1) (l' := []) (by rw [T_nil, zero_add, add_comm])) $$ HI
  unfold Inv
  icases HI with ⟨-, Ho⟩
  -- the barrier
  iapply (wp_barrier m K c (T 1 N steps c + T 2 N steps c) (above_add (above_T 1 (by decide) _ _ _) (above_T 2 (by decide) _ _ _))) $$ [Ho HatB HtB HcB]
  · isplitr; · iexact HC
    isplitl [Ho]; · iexact Ho
    isplitl [HatB]; · iexact HatB
    isplitl [HtB] <;> iassumption
  iintro Ho HatB
  unfold wpc
  -- the inputs
  iapply (wp_get c (Memref.whole cc0_stg0_0) (Memref.readAt_unit_zero (Elt F) cc0_stg0_0 off00 _ _)) $$ Hx; iintro Hx
  iapply (wp_get c (Memref.whole cc0_stg1_0) (Memref.readAt_unit_zero (Elt F) cc0_stg1_0 off00 _ _)) $$ Hr; iintro Hr
  iapply (wp_get c (Memref.whole cc0_stg2_0) (Memref.readAt_unit_zero (Elt F) cc0_stg2_0 off00 _ _)) $$ Hi; iintro Hi
  iapply (wp_load 𝒱₀ (c : Thread nD τ) none Set.univ (m := Memref.whole cc0_stg3_0) (Finset.subset_univ _)) $$ He; iintro He
  iapply (wp_load 𝒱₀ (c : Thread nD τ) none Set.univ (m := Memref.whole cc0_stg3_0) (Finset.subset_univ _)) $$ He; iintro He
  iapply (wp_load 𝒱₀ (c : Thread nD τ) none Set.univ (m := Memref.whole cc0_stg3_0) (Finset.subset_univ _)) $$ He; iintro He
  iapply (wp_load 𝒱₀ (c : Thread nD τ) none Set.univ (m := Memref.whole cc0_stg3_0) (Finset.subset_univ _)) $$ He; iintro He
  -- the partial sums
  iapply (wp_load 𝒱₀ (c : Thread nD τ) none Set.univ (m := b6) (Finset.subset_univ _)) $$ H6; iintro H6
  iapply (wp_store 𝒱₀ (c : Thread nD τ) none Set.univ (m := Memref.whole cc0_scratch0) (r := (Rect.unit (s := S16x32x512) ![0, 0, 0] S16x32x512.size inb_S16x32x512_S16x32x512_0_0_0)) (Mk := Finset.univ) (Finset.subset_univ _)) $$ H6; iintro H6
  ihave H6 := (Entails.of_eq (congrArg (fun g => pts c cc0_scratch0 g) (Memref.write_access_unit_zero_univ (Elt F) cc0_scratch0 off000 _ f6 (partialBuf m c)))) $$ H6
  ihave H6 := (Entails.of_eq (owns_whole (c : Thread nD τ) cc0_scratch0 fullShare (partialBuf m c)).symm) $$ H6
  ihave H6 := (deal c b6 (partialBuf m c)) $$ H6
  icases H6 with ⟨H6o, H6⟩
  -- the second pass
  iapply (wp_pass m K c (opSend c) (pre1 m c) (post1 c) _ (step1 m K c (T 2 N steps c) (above_T 2 (by decide) _ _ _))) $$ [Hc0 Ha0 Ht1 Ht3 H6 Ho]
  · unfold pre1 Inv
    simp only [bigSep_sep']
    isplitl [Hc0 Ha0 Ht1 Ht3 H6]
    · isplitl [Hc0]; · iexact Hc0
      isplitl [Ha0]; · iexact Ha0
      isplitl [Ht1]; · iexact Ht1
      isplitl [Ht3]; · iexact Ht3
      iexact H6
    isplitr; · iexact HC
    iexact Ho
  unfold post1
  simp only [bigSep_sep']
  iintro ⟨Ha0, Hc3, Hn9⟩ HI
  ihave HI := (inv_owed m K c (O' := fun _ => T 2 N steps c) (l' := []) (by rw [T_nil, zero_add])) $$ HI
  unfold wpc
  -- the device's own rows
  iapply (wp_load 𝒱₀ (c : Thread nD τ) none Set.univ (m := Memref.whole cc0_stg0_0) (Finset.subset_univ _)) $$ Hx; iintro Hx
  iapply (wp_get c (Memref.whole cc0_stg4_0) (Memref.readAt_unit_zero (Elt F) cc0_stg4_0 off00 _ _)) $$ Hs; iintro Hs
  iapply (wp_load_slot c b6 c (k0_off6_eq c) (rowOf (partialBuf m c) c)) $$ H6o
  iintro H6o
  -- the third pass
  iapply (wp_passWith m K c (opRecv c) (addStep m c) (pre2 c) (post2 m c) _ (step2 m K c (T 2 N steps c) (above_T 2 (by decide) _ _ _))) $$ [Hc1 Ha1 HI]
  · unfold pre2
    simp only [bigSep_sep']
    isplitl [Hc1 Ha1]
    · isplitl [Hc1] <;> iassumption
    iexact HI
  unfold post2
  simp only [bigSep_sep']
  iintro ⟨Ha1, H7⟩ HI
  ihave HI := (inv_owed m K c (O' := fun l => T 2 N l c + 0) (l' := steps) (by rw [add_zero])) $$ HI
  unfold wpc
  -- the summed rows
  iapply (wp_load 𝒱₀ (c : Thread nD τ) none Set.univ (m := b8) (Finset.subset_univ _)) $$ H8; iintro H8
  iapply (wp_store 𝒱₀ (c : Thread nD τ) none Set.univ (m := Memref.whole cc0_scratch2) (r := (Rect.unit (s := S32x512) ![0, 0] S32x512.size inb_S32x512_S32x512_0_0)) (Mk := Finset.univ) (Finset.subset_univ _)) $$ H8; iintro H8
  ihave H8 := (Entails.of_eq (congrArg (fun g => pts c cc0_scratch2 g) (Memref.write_access_unit_zero_univ (Elt F) cc0_scratch2 off00 _ f8 (brow m c)))) $$ H8
  ihave H8 := (Entails.of_eq (owns_whole (c : Thread nD τ) cc0_scratch2 fullShare (brow m c)).symm) $$ H8
  ihave H8 := (Entails.of_eq (shares c (brow m c))) $$ H8
  icases H8 with ⟨H8o, H8⟩
  -- the fourth pass
  iapply (wp_pass m K c (opBcast c) (pre3 m c) (post3 c) _ (step3 m K c)) $$ [Ht2 Ht4 H8 Hn9 HI]
  · unfold pre3
    simp only [bigSep_sep']
    isplitr [HI]
    · isplitl [Ht2]; · iexact Ht2
      isplitl [Ht4]; · iexact Ht4
      isplitl [H8]; · iexact H8
      iexact Hn9
    iexact HI
  unfold post3
  iintro Hc4 HI
  ihave HI := (inv_owed m K c (O' := fun _ => 0) (l' := steps) (by rw [T_nil, zero_add])) $$ HI
  -- the fifth pass
  iapply (wp_pass m K c (opGather c) (pre4 c) (post4 m c) _ (step4 m K c)) $$ [Hc2 Ha2 HI]
  · unfold pre4
    simp only [bigSep_sep']
    isplitl [Hc2 Ha2]
    · isplitl [Hc2] <;> iassumption
    iexact HI
  unfold post4
  simp only [bigSep_sep']
  iintro ⟨Ha2, H9⟩ HI
  unfold wpc
  -- the result
  ihave H9 := (gather c b9 Y9 (fun j => brow m j)) $$ [H9o H9]
  · isplitl [H9o] <;> iassumption
  ihave H9 := (Entails.of_eq (owns_whole (c : Thread nD τ) cc0_scratch3 fullShare _)) $$ H9
  iapply (wp_get c (Memref.whole cc0_scratch3) (Memref.readAt_unit_zero (Elt F) cc0_scratch3 off000 _ _)) $$ H9; iintro H9
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0) (r := (Rect.unit (s := S512x512) ![0, 0] S512x512.size inb_S512x512_S512x512_0_0)) (Mk := Finset.univ) (Finset.subset_univ _)) $$ Hout; iintro Hout
  ihave Hout := (Entails.of_eq (congrArg (fun g => pts c cc0_stg5_0 g) (Memref.write_access_unit_zero_univ (Elt F) cc0_stg5_0 off00 _ g _))) $$ Hout
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0) (r := (Rect.unit (s := S512x512) (k0_off8 c) S32x512.size (k0_off8_inb c))) (Mk := Finset.univ) (Finset.subset_univ _)) $$ Hout; iintro Hout
  ihave Hout := (Entails.of_eq (congrArg (fun g => pts c cc0_stg5_0 g) (out_own m c Y9))) $$ Hout
  -- the sixth pass
  have last := wp_each c (opDone c) (pre5 c) (post5 m c) (Inv m K c fun _ => 0) (step5 m K c) steps
  rw [sepL_steps, sepL_steps] at last
  ihave HI := (inv_owed m K c (O' := fun _ => 0) (l' := steps) rfl) $$ HI
  ihave Hw := last $$ [Hc3 Ha3 Hc4 Ha4 HI]
  · unfold pre5
    simp only [bigSep_sep']
    isplitr [HI]
    · isplitl [Hc3]; · iexact Hc3
      isplitl [Ha3]; · iexact Ha3
      isplitl [Hc4] <;> iassumption
    iexact HI
  iapply (wp_fupd frame (wpE (defs₀ (F := F)) 𝒱₀ (c : Thread nD τ) none) Set.univ)
  iapply (wp_wand frame (wpE (defs₀ (F := F)) 𝒱₀ (c : Thread nD τ) none) Set.univ) $$ Hw
  unfold post5 Inv
  simp only [bigSep_sep']
  iintro %_ ⟨⟨Ha3, Ha4, H6, H8⟩, -, Ho⟩
  -- the cells are closed
  imod (close_bar m K c) $$ [HatB] with HzB
  · isplitr; · iexact HC
    iexact HatB
  imod (close_kind m K c 0) $$ [Hz0 Ha0] with Hz0
  · isplitr; · iexact HC
    isplitl [Hz0] <;> iassumption
  imod (close_kind m K c 1) $$ [Hz1 Ha1] with Hz1
  · isplitr; · iexact HC
    isplitl [Hz1] <;> iassumption
  imod (close_kind m K c 2) $$ [Hz2 Ha2] with Hz2
  · isplitr; · iexact HC
    isplitl [Hz2] <;> iassumption
  imod (close_kind m K c 3) $$ [Hz3 Ha3] with Hz3
  · isplitr; · iexact HC
    isplitl [Hz3] <;> iassumption
  imod (close_kind m K c 4) $$ [Hz4 Ha4] with Hz4
  · isplitr; · iexact HC
    isplitl [Hz4] <;> iassumption
  imodintro
  -- the buffers are whole again
  ihave H6 := (gather c b6 (rowOf (partialBuf m c) c) (fun j => prow m c j)) $$ [H6o H6]
  · isplitl [H6o] <;> iassumption
  ihave H7 := (gather c b7 Y7 (fun j => prow m j c)) $$ [H7o H7]
  · isplitl [H7o] <;> iassumption
  ihave H8 := (Entails.of_eq (shares c (brow m c)).symm) $$ [H8o H8]
  · isplitl [H8o] <;> iassumption
  ihave H6 := (Entails.of_eq (owns_whole (c : Thread nD τ) cc0_scratch0 fullShare _)) $$ H6
  ihave H7 := (Entails.of_eq (owns_whole (c : Thread nD τ) cc0_scratch1 fullShare _)) $$ H7
  ihave H8 := (Entails.of_eq (owns_whole (c : Thread nD τ) cc0_scratch2 fullShare _)) $$ H8
  isplitl [HzB Hz0 Hz1 Hz2 Hz3 Hz4]
  · unfold closed
    isplitl [HzB]; · iexact HzB
    isplitl [Hz0]; · iexact Hz0
    isplitl [Hz1]; · iexact Hz1
    isplitl [Hz2]; · iexact Hz2
    isplitl [Hz3]; · iexact Hz3
    iexact Hz4
  isplitl [Ho]; · iexact Ho
  isplitl [H6 H7 H8 H9]
  · isplitl [H6]; · iexists _; iexact H6
    isplitl [H7]; · iexists _; iexact H7
    isplitl [H8]; · iexists _; iexact H8
    iexists _; iexact H9
  isplitl [Hx Hr Hi He Hs]
  · isplitl [Hx]; · iexact Hx
    isplitl [Hr]; · iexact Hr
    isplitl [Hi]; · iexact Hi
    isplitl [He]; · iexact He
    iexact Hs
  iexact Hout

end Cert.KernelIdeal.Moe

end
-- ==== Proof.KernelIdeal.Ghost.lean ====
/-
How the protocol's ghost state is set up at launch: the cells are shared, the tokens dealt to the devices that are to use
them, and every cell is owed what its device awaits.
-/
module

public import proofs.«01_k».proof.Proof.KernelIdeal.Body

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (c : Dev nD)

/-! ## The cells, counted -/

/-- Two cells of the protocol are the same only when they are the same. -/
theorem kcell_injective : Function.Injective kcell := by
  rintro ⟨c, x⟩ ⟨c', x'⟩ h
  obtain rfl : c = c' := congrArg (fun g : GSem nD τ sig => g.1.1) h
  have e := loc_inj (congrArg Prod.snd h)
  refine Prod.ext rfl ?_
  cases x with
  | none => cases x' with
    | none => rfl
    | some q => cases e
  | some p => cases x' with
    | none => cases e
    | some q =>
      obtain ⟨k, o⟩ := p
      obtain ⟨k', o'⟩ := q
      have e' : (k, raw k c o) = (k', raw k' c o') := Option.some.inj e
      obtain rfl : k = k' := congrArg Prod.fst e'
      have h' : raw k c o = raw k c o' := congrArg Prod.snd e'
      have : o = o' := by rw [← unraw_raw k c o, h', unraw_raw]
      subst this; rfl

/-- Different devices' cells differ, so do those of different kinds and at different distances. -/
theorem cell_eq_iff {a b : Dev nD} {k l : Fin 5} {o p : Fin 16} : cell a k o = cell b l p ↔ a = b ∧ k = l ∧ o = p := by
  constructor
  · intro h
    have e : ((a, some (k, o)) : Dev nD × Option (Fin 5 × Fin 16)) = (b, some (l, p)) := kcell_injective h
    injection e with e1 e2
    injection e2 with e2
    injection e2 with e2 e3
    exact ⟨e1, e2, e3⟩
  · rintro ⟨rfl, rfl, rfl⟩; rfl
/-- No barrier is one of the other cells. -/
theorem bar_ne_cell {a b : Dev nD} {k : Fin 5} {o : Fin 16} : bar a ≠ cell b k o := fun h => by
  have e : ((a, none) : Dev nD × Option (Fin 5 × Fin 16)) = (b, some (k, o)) := kcell_injective h
  cases congrArg Prod.snd e
/-- Devices have different barriers. -/
theorem bar_eq_iff {a b : Dev nD} : bar a = bar b ↔ a = b :=
  ⟨fun h => congrArg (fun g : GSem nD τ sig => g.1.1) h, fun h => h ▸ rfl⟩

omit [FloatOps F] in
/-- Over the five kinds. -/
theorem sep_kind (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
/-- Over a device's cells: the barrier, and the cells by kind and distance. -/
theorem sep_cells (Φ : Option (Fin 5 × Fin 16) → sProp 𝕄) :
    bigSep Finset.univ Φ = iprop(Φ none ∗ bigSep Finset.univ fun p => Φ (some p)) := by
  rw [show (Finset.univ : Finset (Option (Fin 5 × Fin 16))) = insert none (Finset.univ.map Function.Embedding.some) by decide +kernel,
    bigSep_insert (by simp), bigSep_map]
  rfl
omit [FloatOps F] in
/-- The same, the kinds one by one. -/
theorem sep_all (Φ : Option (Fin 5 × Fin 16) → sProp 𝕄) :
    bigSep Finset.univ Φ = iprop(Φ none ∗ (bigSep Finset.univ fun o => Φ (some (0, o))) ∗ (bigSep Finset.univ fun o => Φ (some (1, o)))
      ∗ (bigSep Finset.univ fun o => Φ (some (2, o))) ∗ (bigSep Finset.univ fun o => Φ (some (3, o))) ∗ (bigSep Finset.univ fun o => Φ (some (4, o)))) := by
  rw [sep_cells, bigSep_univ_prod, sep_kind]

/-- The entries of device `c`'s semaphores by distance. -/
def entries (c : Dev nD) : (Fin 5 × Fin 16) ≃ (Fin 5 × Fin 16) :=
  ⟨fun p => (p.1, raw p.1 c p.2), fun p => (p.1, unraw p.1 c p.2), fun p => Prod.ext rfl (unraw_raw p.1 c p.2), fun p => Prod.ext rfl (raw_unraw p.1 c p.2)⟩

/-- The kernel's own semaphores. -/
abbrev osem : Fin 5 × Fin 16 → SemLoc sig := fun p => sl p.1 p.2
/-- They are the launch's own semaphores. -/
theorem ownSemFacts : Pipeline.OwnSemFacts cfg0.spec osem := by decide +kernel

omit [FloatOps F] in
/-- A device's counters at zero: those of its own semaphores and its barrier's. -/
theorem sems_eq : (iprop(Pipeline.ownSems0 (Ix := Unit) (Name := ℕ) (U := UU) (Lvl := ℕ) (Val := Elt F) (τ := τ) osem c ∗ unscopedSems0 c) : sProp 𝕄)
    = bigSep Finset.univ fun x => semVal (kcell (c, x)) 0 := by
  have hu : (unscopedSems0 c : sProp 𝕄) = semVal (bar c) 0 := by
    unfold unscopedSems0; rw [bigSep_eq_bigSepL_of_eq [SemLoc.reg barSem] (by decide) (by decide)]; rfl
  have ho : (Pipeline.ownSems0 (Ix := Unit) (Name := ℕ) (U := UU) (Lvl := ℕ) (Val := Elt F) (τ := τ) osem c : sProp 𝕄)
      = bigSep Finset.univ fun p : Fin 5 × Fin 16 => semVal (kcell (c, some p)) 0 := by
    show bigSep Finset.univ (fun p : Fin 5 × Fin 16 => semVal ((c : Thread nD τ), sl p.1 p.2) 0) = _
    rw [bigSep_univ_equiv (entries c)]; rfl
  rw [hu, ho, sep_cells]
  exact BI.equiv_iff.mp ⟨BI.sep_comm, BI.sep_comm⟩
omit [FloatOps F] in
/-- A device's closed cells are its counters at zero. -/
theorem closed_eq : (closed c : sProp 𝕄) = bigSep Finset.univ fun x => semVal (kcell (c, x)) 0 := by
  rw [sep_all]; rfl

/-! ## The ghost state at launch -/

/-- All cells. -/
def ringCells : Finset (GSem nD τ sig) := Finset.univ.map ⟨kcell, kcell_injective⟩
/-- One token a cell. -/
def ringToks : Finset (GSem nD τ sig × ℕ × Unit) :=
  Finset.univ.map ⟨fun x => (kcell x, 0, ()), fun _ _ h => kcell_injective (congrArg Prod.fst h)⟩
/-- The ghost state at launch. -/
def u₀ : UU := (initOf (Pipeline.cells cfgs cellOf_inj) (Pipeline.launchToks cfgs cellOf_inj), initOf ringCells ringToks)

/-- What device `c` is given of it: its cells unsignalled, its positions and the tokens of its cells. -/
def G (c : Dev nD) : sProp 𝕄 :=
  iprop((bigSep Finset.univ fun x => roundState ER (sched m) (kcell (c, x)) 0)
    ∗ (bigSep Finset.univ fun x => iprop(atPos ER (kcell (c, x)) 0 ∅ 0 ∗ reached ER (kcell (c, x)) 0))
    ∗ bigSep Finset.univ fun x => dutyTok ER (kcell (c, x)) 0 ())

/-- The tokens of the signals device `c` is to give. -/
def payToks (c : Dev nD) : sProp 𝕄 :=
  iprop(dutyTok ER (bar c) 0 () ∗ (every fun r => dutyTok ER (cell (nbr c r.succ) 0 (opp r.succ)) 0 ()) ∗ (every fun r => dutyTok ER (cell (nbr c r.succ) 1 (opp r.succ)) 0 ())
    ∗ (every fun r => dutyTok ER (cell (nbr c r.succ) 2 (opp r.succ)) 0 ()) ∗ (every fun r => dutyTok ER (cell c 3 r.succ) 0 ()) ∗ (every fun r => dutyTok ER (cell c 4 r.succ) 0 ()))

/-- What device `c` holds once the cells are shared: everybody's record, its positions and its tokens. -/
def G' (c : Dev nD) : sProp 𝕄 := iprop(∃ K, records m K ∗ (bigSep Finset.univ fun x => atPos ER (kcell (c, x)) 0 ∅ 0) ∗ payToks c)

omit [FloatOps F] in
/-- Tokens dealt to the devices that are to use them. -/
theorem deal_toks (k : Fin 5) :
    (bigSep Finset.univ fun c : Dev nD => bigSep Finset.univ fun o : Fin 16 => (dutyTok ER (cell c k o) 0 () : sProp 𝕄))
      ⊢ bigSep Finset.univ fun c : Dev nD => every fun r => dutyTok ER (cell (nbr c r.succ) k (opp r.succ)) 0 () := by
  rw [← bigSep_univ_prod (fun p : Dev nD × Fin 16 => (dutyTok ER (cell p.1 k p.2) 0 () : sProp 𝕄)), bigSep_univ_equiv turn, bigSep_univ_prod]
  have h : ∀ c : Dev nD, (bigSep Finset.univ fun o : Fin 16 => (dutyTok ER (cell (nbr c o) k (opp o)) 0 () : sProp 𝕄))
      ⊢ every fun r => dutyTok ER (cell (nbr c r.succ) k (opp r.succ)) 0 () := fun c => by
    rw [sep_dist]; iintro ⟨-, H⟩; iexact H
  exact bigSep_mono fun c _ => h c
omit [FloatOps F] in
/-- Tokens kept. -/
theorem keep_toks (k : Fin 5) :
    (bigSep Finset.univ fun c : Dev nD => bigSep Finset.univ fun o : Fin 16 => (dutyTok ER (cell c k o) 0 () : sProp 𝕄))
      ⊢ bigSep Finset.univ fun c : Dev nD => every fun r => dutyTok ER (cell c k r.succ) 0 () := by
  have h : ∀ c : Dev nD, (bigSep Finset.univ fun o : Fin 16 => (dutyTok ER (cell c k o) 0 () : sProp 𝕄))
      ⊢ every fun r => dutyTok ER (cell c k r.succ) 0 () := fun c => by
    rw [sep_dist]; iintro ⟨-, H⟩; iexact H
  exact bigSep_mono fun c _ => h c

omit [FloatOps F] in
/-- All tokens dealt. -/
theorem toks_around :
    (bigSep Finset.univ fun c : Dev nD => bigSep Finset.univ fun x => (dutyTok ER (kcell (c, x)) 0 () : sProp 𝕄)) ⊢ bigSep Finset.univ fun c : Dev nD => payToks c := by
  rw [bigSep_congr fun c _ => sep_all _]
  unfold payToks
  simp only [bigSep_sep']
  iintro ⟨HB, H0, H1, H2, H3, H4⟩
  isplitl [HB]; · iexact HB
  isplitl [H0]; · iapply (deal_toks (F := F) 0); iexact H0
  isplitl [H1]; · iapply (deal_toks (F := F) 1); iexact H1
  isplitl [H2]; · iapply (deal_toks (F := F) 2); iexact H2
  isplitl [H3]; · iapply (keep_toks (F := F) 3); iexact H3
  iapply (keep_toks (F := F) 4); iexact H4

/-- The launch's ghost state is every device's share. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun x => Φ (kcell (c, x)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun x => dutyTok ER (kcell (c, x)) 0 () := by
    unfold ringToks; rw [bigSep_map, bigSep_univ_prod]; rfl
  iintro HX
  imod (Rounds.fund ER (sched m) ringCells ringToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- Device `c` shares its cells. -/
theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x => iprop(∃ κ : ℕ, cellInv ER (sched m) κ (kcell (c, x))))
          ∗ (bigSep Finset.univ fun x => iprop(atPos ER (kcell (c, x)) 0 ∅ 0 ∗ reached ER (kcell (c, x)) 0)) ∗ bigSep Finset.univ fun x => dutyTok ER (kcell (c, x)) 0 ()) := by
  have hall : iprop((bigSep Finset.univ fun x => semVal (kcell (c, x)) 0) ∗ bigSep Finset.univ fun x => roundState ER (sched m) (kcell (c, x)) 0)
      ⊢ (|={Set.univ}=> bigSep Finset.univ fun x => iprop(∃ κ : ℕ, cellInv ER (sched m) κ (kcell (c, x))) : sProp 𝕄) := by
    rw [← bigSep_sep']
    exact (bigSep_mono fun x _ => (Rounds.body_intro ER (sched m) (kcell (c, x))).trans inv_alloc).trans (bigSep_fupd _ _)
  unfold G
  iintro ⟨Hos, Hus, Hst, Hat, Htok⟩
  ihave Hv := (Entails.of_eq (sems_eq (F := F) c)) $$ [Hos Hus]
  · isplitl [Hos] <;> iassumption
  imod hall $$ [Hv Hst] with Hinv
  · isplitl [Hv] <;> iassumption
  imodintro
  isplitl [Hinv]; · iexact Hinv
  isplitl [Hat]; · iexact Hat
  iexact Htok

/-- The records are everybody's, the tokens dealt. -/
theorem regroup :
    (bigSep Finset.univ fun c : Dev nD => iprop((bigSep Finset.univ fun x => iprop(∃ κ : ℕ, cellInv ER (sched m) κ (kcell (c, x))))
          ∗ (bigSep Finset.univ fun x => iprop(atPos ER (kcell (c, x)) 0 ∅ 0 ∗ reached ER (kcell (c, x)) 0)) ∗ bigSep Finset.univ fun x => dutyTok ER (kcell (c, x)) 0 ()) : sProp 𝕄)
      ⊢ bigSep Finset.univ (G' m) := by
  simp only [bigSep_sep']
  rw [← bigSep_univ_prod (fun y : Dev nD × Option (Fin 5 × Fin 16) => iprop(∃ κ : ℕ, cellInv ER (sched m) κ (kcell y))),
    ← bigSep_univ_prod (fun y : Dev nD × Option (Fin 5 × Fin 16) => (reached ER (kcell y) 0 : sProp 𝕄))]
  iintro ⟨HI, ⟨Hat, HR⟩, Htok⟩
  ihave HK := (BI.bigSep_exists_pi Finset.univ (fun (y : Dev nD × Option (Fin 5 × Fin 16)) (κ : ℕ) => (cellInv ER (sched m) κ (kcell y) : sProp 𝕄))) $$ HI
  icases HK with ⟨%K, HI⟩
  ihave Htk := (toks_around (F := F)) $$ Htok
  have hg : ∀ c : Dev nD, iprop(records m K ∗ ((bigSep Finset.univ fun x => atPos ER (kcell (c, x)) 0 ∅ 0) ∗ payToks c)) ⊢ G' m c := fun c => by
    unfold G'; iintro H; iexists K; iexact H
  iapply (sep_with (S := Finset.univ) hg)
  isplitl [HI HR]
  · unfold records; rw [bigSep_sep']
    isplitl [HI] <;> iassumption
  rw [bigSep_sep']
  isplitl [Hat] <;> iassumption

/-- All devices share their cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- What the steps `l` of device `d` owe a cell of their kind. -/
theorem T_at (k : Fin 5) (n : ℕ) (d c : Dev nD) (o : Fin 16) (l : List (Fin 15)) :
    T k n l d (cell c k o) () = n * (l.map fun r => if c = nbr d r.succ ∧ o = opp r.succ then 1 else 0).sum := by
  induction l with
  | nil => rfl
  | cons r l ih =>
    rw [T_cons, Pi.add_apply, Finsupp.add_apply, ih, tallyAt_apply, List.map_cons, List.sum_cons, Nat.mul_add]
    congr 1
    by_cases h : c = nbr d r.succ ∧ o = opp r.succ
    · rw [if_pos h, if_pos ⟨by rw [h.1, h.2], rfl⟩, Nat.mul_one]
    · rw [if_neg h, if_neg fun e => h ⟨(cell_eq_iff.mp e.1).1, (cell_eq_iff.mp e.1).2.2⟩, Nat.mul_zero]
/-- They owe nothing to other cells. -/
theorem T_off (k : Fin 5) (n : ℕ) (d : Dev nD) (g : GSem nD τ sig) (hg : ∀ a o, g ≠ cell a k o) (l : List (Fin 15)) : T k n l d g () = 0 := by
  induction l with
  | nil => rfl
  | cons r l ih => rw [T_cons, Pi.add_apply, Finsupp.add_apply, ih, tallyAt_apply, if_neg fun e => hg _ _ e.1]
/-- Each distance is met by one device at one step. -/
theorem one_step : ∀ (c : Dev nD) (r : Fin 15), (∑ d : Dev nD, (steps.map fun s => if c = nbr d s.succ ∧ r.succ = opp s.succ then 1 else 0).sum) = 1 := by
  decide +kernel

/-- All of `O₀` at a cell. -/
theorem O₀_apply (d : Dev nD) (g : GSem nD τ sig) : O₀ d g () = T 0 1 steps d g () + (tallyAt (bar d) () 1 g () + (T 1 N steps d g () + T 2 N steps d g ())) := rfl

/-- Together the devices owe a ready cell one unit; -/
theorem owed_ready (r : Fin 15) : (∑ d : Dev nD, O₀ d (cell c 0 r.succ) ()) = 1 := by
  have h : ∀ d : Dev nD, O₀ d (cell c 0 r.succ) () = (steps.map fun s => if c = nbr d s.succ ∧ r.succ = opp s.succ then 1 else 0).sum := fun d => by
    rw [O₀_apply, T_at, T_off 1 _ _ _ (fun a o e => absurd (cell_eq_iff.mp e).2.1 (by decide)), T_off 2 _ _ _ (fun a o e => absurd (cell_eq_iff.mp e).2.1 (by decide)),
      tallyAt_apply, if_neg fun e => bar_ne_cell e.1.symm, Nat.one_mul, Nat.zero_add, Nat.zero_add, Nat.add_zero]
  rw [Finset.sum_congr rfl fun d _ => h d, one_step]
/-- an arrival cell a transfer; -/
theorem owed_first (r : Fin 15) : (∑ d : Dev nD, O₀ d (cell c 1 r.succ) ()) = N := by
  have h : ∀ d : Dev nD, O₀ d (cell c 1 r.succ) () = N * (steps.map fun s => if c = nbr d s.succ ∧ r.succ = opp s.succ then 1 else 0).sum := fun d => by
    rw [O₀_apply, T_at, T_off 0 _ _ _ (fun a o e => absurd (cell_eq_iff.mp e).2.1 (by decide)), T_off 2 _ _ _ (fun a o e => absurd (cell_eq_iff.mp e).2.1 (by decide)),
      tallyAt_apply, if_neg fun e => bar_ne_cell e.1.symm, Nat.zero_add, Nat.zero_add, Nat.add_zero]
  rw [Finset.sum_congr rfl fun d _ => h d, ← Finset.mul_sum, one_step, Nat.mul_one]
/-- so the cell of the second transfer; -/
theorem owed_second (r : Fin 15) : (∑ d : Dev nD, O₀ d (cell c 2 r.succ) ()) = N := by
  have h : ∀ d : Dev nD, O₀ d (cell c 2 r.succ) () = N * (steps.map fun s => if c = nbr d s.succ ∧ r.succ = opp s.succ then 1 else 0).sum := fun d => by
    rw [O₀_apply, T_at, T_off 0 _ _ _ (fun a o e => absurd (cell_eq_iff.mp e).2.1 (by decide)), T_off 1 _ _ _ (fun a o e => absurd (cell_eq_iff.mp e).2.1 (by decide)),
      tallyAt_apply, if_neg fun e => bar_ne_cell e.1.symm, Nat.zero_add, Nat.zero_add, Nat.zero_add]
  rw [Finset.sum_congr rfl fun d _ => h d, ← Finset.mul_sum, one_step, Nat.mul_one]
/-- and a barrier one unit. -/
theorem owed_bar : (∑ d : Dev nD, O₀ d (bar c) ()) = 1 := by
  have h : ∀ d : Dev nD, O₀ d (bar c) () = if d = c then 1 else 0 := fun d => by
    rw [O₀_apply, T_off 0 _ _ _ (fun a o => bar_ne_cell), T_off 1 _ _ _ (fun a o => bar_ne_cell), T_off 2 _ _ _ (fun a o => bar_ne_cell), tallyAt_apply,
      Nat.zero_add, Nat.add_zero]
    by_cases e : d = c
    · subst e; rw [if_pos ⟨rfl, rfl⟩, if_pos rfl]
    · rw [if_neg fun h => e (bar_eq_iff.mp h.1).symm, if_neg e]
  rw [Finset.sum_congr rfl fun d _ => h d, Finset.sum_ite_eq' Finset.univ c fun _ => 1, if_pos (Finset.mem_univ _)]

/-- The credit at launch of a cell that is owed `n`. -/
theorem launch_at (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

omit [FloatOps F] in
/-- A device's credit at launch. -/
theorem creds : (Pipeline.launchCred O₀ c : sProp 𝕄)
    ⊢ iprop(cred (tallyAt (bar c) () 1) ∗ (every fun r => cred (tallyAt (cell c 0 r.succ) () 1)) ∗ (every fun r => cred (tallyAt (cell c 1 r.succ) () N))
        ∗ every fun r => cred (tallyAt (cell c 2 r.succ) () N)) := by
  have hs : (Pipeline.launchCred O₀ c : sProp 𝕄) ⊢ bigSep Finset.univ fun x => cred (tallyOn (kcell (c, x)) (launchCredit (Pipeline.owing O₀) 0 (kcell (c, x)))) := by
    unfold Pipeline.launchCred
    have hsub : (bigSep Finset.univ fun sm => cred (tallyOn ((c : Thread nD τ), sm) (launchCredit (Pipeline.owing O₀) 0 ((c : Thread nD τ), sm))) : sProp 𝕄)
        ⊢ bigSep (Finset.univ.map ⟨loc, loc_inj⟩) fun sm => cred (tallyOn ((c : Thread nD τ), sm) (launchCredit (Pipeline.owing O₀) 0 ((c : Thread nD τ), sm))) :=
      bigSep_subset (Finset.subset_univ _)
    refine hsub.trans (Entails.of_eq ?_)
    rw [bigSep_map, sep_cells, sep_cells, bigSep_univ_equiv (entries c)]; rfl
  refine hs.trans ?_
  rw [sep_all]
  simp only [sep_dist]
  have e0 : ∀ r : Fin 15, (cred (tallyOn (kcell (c, some (0, r.succ))) (launchCredit (Pipeline.owing O₀) 0 (kcell (c, some (0, r.succ))))) : sProp 𝕄) = cred (tallyAt (cell c 0 r.succ) () 1) :=
    fun r => congrArg _ (launch_at (cell c 0 r.succ) 1 (owed_ready c r))
  have e1 : ∀ r : Fin 15, (cred (tallyOn (kcell (c, some (1, r.succ))) (launchCredit (Pipeline.owing O₀) 0 (kcell (c, some (1, r.succ))))) : sProp 𝕄) = cred (tallyAt (cell c 1 r.succ) () N) :=
    fun r => congrArg _ (launch_at (cell c 1 r.succ) N (owed_first c r))
  have e2 : ∀ r : Fin 15, (cred (tallyOn (kcell (c, some (2, r.succ))) (launchCredit (Pipeline.owing O₀) 0 (kcell (c, some (2, r.succ))))) : sProp 𝕄) = cred (tallyAt (cell c 2 r.succ) () N) :=
    fun r => congrArg _ (launch_at (cell c 2 r.succ) N (owed_second c r))
  have eb : (cred (tallyOn (kcell (c, none)) (launchCredit (Pipeline.owing O₀) 0 (kcell (c, none)))) : sProp 𝕄) = cred (tallyAt (bar c) () 1) :=
    congrArg _ (launch_at (bar c) 1 (owed_bar c))
  simp only [e0, e1, e2, eb]
  iintro ⟨HB, ⟨-, H0⟩, ⟨-, H1⟩, ⟨-, H2⟩, -⟩
  isplitl [HB]; · iexact HB
  isplitl [H0]; · iexact H0
  isplitl [H1] <;> iassumption

/-- A device starts with its ghost state, knowing the records and the ranks. -/
theorem ghost_intro : iprop(G' m c ∗ levAts L lv ∗ Pipeline.launchCred O₀ c) ⊢ ∃ K, Ctx m K ∗ ghost c := by
  unfold G' payToks ghost idle per Ctx
  rw [sep_all]
  simp only [sep_dist, bigSep_sep']
  rw [← lev_eq]
  iintro ⟨⟨%K, HR, ⟨HaB, ⟨Hz0, Ha0⟩, ⟨Hz1, Ha1⟩, ⟨Hz2, Ha2⟩, ⟨Hz3, Ha3⟩, ⟨Hz4, Ha4⟩⟩, HtB, Ht0, Ht1, Ht2, Ht3, Ht4⟩, Hlev, Hcr⟩
  ihave Hc := (creds (F := F) c) $$ Hcr
  icases Hc with ⟨HcB, Hc0, Hc1, Hc2⟩
  iexists K
  isplitl [HR Hlev]
  · isplitl [HR] <;> iassumption
  isplitl [HaB HtB HcB]
  · isplitl [HaB]; · iexact HaB
    isplitl [HtB] <;> iassumption
  isplitl [Hz0 Hz1 Hz2 Hz3 Hz4]
  · isplitl [Hz0]; · iexact Hz0
    isplitl [Hz1]; · iexact Hz1
    isplitl [Hz2]; · iexact Hz2
    isplitl [Hz3]; · iexact Hz3
    iexact Hz4
  isplitl [Ha0]; · iexact Ha0
  isplitl [Ha1]; · iexact Ha1
  isplitl [Ha2]; · iexact Ha2
  isplitl [Ha3]; · iexact Ha3
  isplitl [Ha4]; · iexact Ha4
  isplitl [Ht0]; · iexact Ht0
  isplitl [Ht1]; · iexact Ht1
  isplitl [Ht2]; · iexact Ht2
  isplitl [Ht3]; · iexact Ht3
  isplitl [Ht4]; · iexact Ht4
  isplitl [Hc0]; · iexact Hc0
  isplitl [Hc1] <;> iassumption

end Cert.KernelIdeal.Moe

end
-- ==== Proof.KernelIdeal.Launch.lean ====
/-
The launch: every run of the sixteen kernels ends, the inputs unchanged, the result as computed, every counter at zero.
-/
module

public import proofs.«01_k».proof.Proof.KernelIdeal.Ghost
public import Idealize.ShloMosaic.Lib.Pipeline.CollectiveSegs

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg) (c : Dev nD)

open Idealize.ShloMosaic.Pipeline (Dat Cfg Window BodyObligation)

/-- What a device starts with: the ghost state of the protocol. -/
def start : sProp 𝕄 := iprop(∃ K, Ctx m K ∗ ghost c)
/-- Before the body: that and the scratch buffers. -/
def Φ₀ : sProp 𝕄 := iprop(start m c ∗ scr c)
/-- After the body: the cells closed, the scratch buffers. -/
def Φ₁ : sProp 𝕄 := iprop(closed c ∗ scr c)

/-- The pipeline's proof data: the inputs stay as fetched, the result is the computed one. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inX m c
    | ⟨1, _⟩ => inR m c
    | ⟨2, _⟩ => inI m c
    | ⟨3, _⟩ => inE m c
    | ⟨4, _⟩ => inS m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The body meets the shared expert's block, and every other input's, as fetched. -/
theorem before0 (d) : (dats m ρ 0 c).before 0 t0_0 d = inX m c := by
  unfold Dat.before; rw [if_pos (fetch0_0 t0_0)]; rfl
/-- The router's. -/
theorem before1 (d) : (dats m ρ 0 c).before 1 t0_0 d = inR m c := by
  unfold Dat.before; rw [if_pos (fetch0_1 t0_0)]; rfl
/-- The choices'. -/
theorem before2 (d) : (dats m ρ 0 c).before 2 t0_0 d = inI m c := by
  unfold Dat.before; rw [if_pos (fetch0_2 t0_0)]; rfl
/-- The experts'. -/
theorem before3 (d) : (dats m ρ 0 c).before 3 t0_0 d = inE m c := by
  unfold Dat.before; rw [if_pos (fetch0_3 t0_0)]; rfl
/-- The shared expert's. -/
theorem before4 (d) : (dats m ρ 0 c).before 4 t0_0 d = inS m c := by
  unfold Dat.before; rw [if_pos (fetch0_4 t0_0)]; rfl

/-- What the pipeline calls the body with. -/
def bodyPre : sProp 𝕄 :=
  iprop(Φ₀ m c ∗ (dats m ρ 0 c).owesAt () t0_0.castSucc
    ∗ (∃ d, pts c cc0_stg0_0 ((dats m ρ 0 c).before 0 t0_0 d)) ∗ (∃ d, pts c cc0_stg1_0 ((dats m ρ 0 c).before 1 t0_0 d)) ∗ (∃ d, pts c cc0_stg2_0 ((dats m ρ 0 c).before 2 t0_0 d))
    ∗ (∃ d, pts c cc0_stg3_0 ((dats m ρ 0 c).before 3 t0_0 d)) ∗ (∃ d, pts c cc0_stg4_0 ((dats m ρ 0 c).before 4 t0_0 d)) ∗ ∃ d, pts c cc0_stg5_0 ((dats m ρ 0 c).before 5 t0_0 d))
/-- What it wants back. -/
def bodyPost : sProp 𝕄 :=
  iprop(Φ₁ c ∗ (dats m ρ 0 c).owesAt () t0_0.succ
    ∗ pts c cc0_stg0_0 (inX m c) ∗ pts c cc0_stg1_0 (inR m c) ∗ pts c cc0_stg2_0 (inI m c)
    ∗ pts c cc0_stg3_0 (inE m c) ∗ pts c cc0_stg4_0 (inS m c) ∗ pts c cc0_stg5_0 (outAt m c))

/-- The body, between the two. -/
theorem body_run [∀ e, Nonempty (Elt F e)] : bodyPre m ρ c ⊢ wpc c (bodyAt0 t0_0) fun _ => bodyPost m ρ c := by
  rw [show (bodyAt0 t0_0 : Prog (BodyEff F) PUnit) = phases (Memref.whole cc0_stg0_0) (Memref.whole cc0_stg1_0) (Memref.whole cc0_stg2_0) (Memref.whole cc0_stg3_0) (Memref.whole cc0_stg4_0) (Memref.whole cc0_stg5_0)
    from body_eq_phases _ _ _ _ _ _ _ _ _ _ _ _]
  unfold bodyPre Φ₀ start Dat.owesAt Pipeline.owesWithin
  rw [show (dats m ρ 0 c).owed t0_0.castSucc = O₀ c from rfl]
  simp only [before0, before1, before2, before3, before4]
  iintro ⟨⟨⟨%K, HC, Hg⟩, Hscr⟩, ⟨%W, %hW, Ho⟩, ⟨%_, H0⟩, ⟨%_, H1⟩, ⟨%_, H2⟩, ⟨%_, H3⟩, ⟨%_, H4⟩, %d, H5⟩
  ihave Hw := (run_phases m K c) $$ [HC Hg Hscr Ho H0 H1 H2 H3 H4 H5]
  · isplitl [HC]; · iexact HC
    isplitl [Hg]; · iexact Hg
    isplitl [Ho]; · iexists W; iexact Ho
    isplitl [Hscr]; · iexact Hscr
    isplitl [H0 H1 H2 H3 H4]
    · unfold ins
      isplitl [H0]; · iexact H0
      isplitl [H1]; · iexact H1
      isplitl [H2]; · iexact H2
      isplitl [H3]; · iexact H3
      iexact H4
    iexists _; iexact H5
  unfold wpc
  iapply (wp_wand frame (wpE (defs₀ (F := F)) 𝒱₀ (c : Thread nD τ) none) Set.univ) $$ Hw
  iintro %_ ⟨Hcl, ⟨%W', Ho⟩, Hscr, Hins, Hout⟩
  unfold bodyPost Φ₁ Dat.owesAt Pipeline.owesWithin ins
  rw [show (dats m ρ 0 c).owed t0_0.succ = 0 from rfl]
  icases Hins with ⟨H0, H1, H2, H3, H4⟩
  isplitl [Hcl Hscr]
  · isplitl [Hcl] <;> iassumption
  isplitl [Ho]
  · iexists W'
    isplitr; · ipureintro; exact fun _ _ => Or.inl trivial
    iexact Ho
  isplitl [H0]; · iexact H0
  isplitl [H1]; · iexact H1
  isplitl [H2]; · iexact H2
  isplitl [H3]; · iexact H3
  isplitl [H4]; · iexact H4
  iexact Hout

set_option maxRecDepth 65536 in
set_option maxHeartbeats 4000000 in
/-- The body as the pipeline wants it. -/
theorem body_obligation [∀ e, Nonempty (Elt F e)] (c : Dev nD) : BodyObligation (dats (F := F) m ρ 0 c) (defs₀ (F := F)) 𝒱₀ () Set.univ := fun t => by
  rw [fin_N0 t, bigSep_W0, bigSep_W0]
  simp only [owns_whole]
  exact body_run m ρ c

/-! ## The side conditions of the launch -/

/-- The pipeline's buffers are held whole. -/
theorem share_eq (c : Dev nD) (w : Fin cfg0.W) : (dats m ρ 0 c).share w = fullShare := by unfold Dat.share; split <;> rfl

/-- A device's start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  imodintro
  unfold start
  isplitl
  · iapply (ghost_intro m c)
    isplitl [HG]; · iexact HG
    isplitl [Hlev] <;> iassumption
  · iempintro

/-- The body's start. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs] <;> iassumption

/-- The body's end. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [closed_eq, ← sems_eq]
  iintro ⟨⟨Ho, Hu⟩, Hr⟩
  isplitl [Hu]; · iexact Hu
  isplitl [Ho] <;> iassumption

/-- The pipeline's own semaphores are none of the protocol's. -/
theorem stage_lv (c : Dev nD) (sm : SemLoc sig) (h : ∀ x, loc x ≠ sm) : lv ((c : Thread nD τ), sm) () = 0 := by
  unfold lv dec
  rw [if_pos rfl]
  unfold Function.partialInv
  rw [dif_neg fun ⟨x, hx⟩ => h x hx]
  rfl

/-- The pipeline may wait at its own semaphores whatever the device owes. -/
theorem waits (c : Dev nD) : (levAts L lv : sProp 𝕄) ⊢ Pipeline.cellsWaits cfgs (dats m ρ) () 0 c :=
  Pipeline.cellsWaits_intro cfgs (dats m ρ) () 0 c fun w s t => by
    rw [← lev_eq]
    refine mayWait c _ 0 (stage_lv c _ ?_) _ ?_
    · fin_cases w <;> fin_cases s <;> decide +kernel
    · rcases t with ⟨_ | _, ht⟩
      · exact above_O₀ c
      · exact above_zero 0

/-! ## The run -/

/-- A window's array when all is done. -/
def finalA (c : Dev nD) (w : Fin cfg0.W) : Buf (Elt F) ((cfg0.win w).arr.view.loc (c : Thread nD τ)) := (dats m ρ 0 c).arrAt w cfg0.N

/-- Every device's arrays are the final ones. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
set_option maxHeartbeats 4000000 in
/-- Every run of the sixteen kernels from any memory with counters at zero ends, each device's arrays being the final
    ones and every counter at zero. -/
theorem run_main [∀ e, Nonempty (Elt F e)] : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The frame: every run ends, the arguments unchanged and every counter at zero. -/
theorem run_frame [∀ e, Nonempty (Elt F e)] : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c 0).trans ((dats m ρ 0 c).arrAt_in 0 rfl _), (h.1 c 1).trans ((dats m ρ 0 c).arrAt_in 1 rfl _),
    (h.1 c 2).trans ((dats m ρ 0 c).arrAt_in 2 rfl _), (h.1 c 3).trans ((dats m ρ 0 c).arrAt_in 3 rfl _), (h.1 c 4).trans ((dats m ρ 0 c).arrAt_in 4 rfl _)⟩, h.2⟩) (run_main m ρ)

end Cert.KernelIdeal.Moe

end
-- ==== Proof.Value.Model.lean ====
/-
The layer as a formula over the extended reals: a softmax router's weight for the expert that each token names, that
expert's product scaled by it, and the shared expert's product.
-/
module

public import Idealize.ShloMosaic.Lib.Pointwise
public import Idealize.ShloMosaic.PureOps.Ideal

@[expose] public section

noncomputable section

namespace Cert.Moe

open Idealize.ShloMosaic

/-! ## The softmax of a row -/

/-- The largest entry of a row of scores. -/
def top {n : ℕ} (a : Fin n → EReal) : EReal := Finset.univ.fold max (Ideal.ofBits .f32 0xFF800000#32) a
/-- Entry `k` of its softmax. -/
def weight {n : ℕ} (a : Fin n → EReal) (k : Fin n) : EReal := Ideal.div (Ideal.exp (a k - top a)) (∑ j, Ideal.exp (a j - top a))

/-- The pattern the maximum starts from stands for minus infinity. -/
theorem ofBits_bot : Ideal.ofBits .f32 0xFF800000#32 = ⊥ := by
  simp [Ideal.ofBits, Ideal.ieee]

/-- The pattern of plus infinity. -/
theorem ofBits_top : Ideal.ofBits .f32 0x7F800000#32 = ⊤ := by
  simp [Ideal.ofBits, Ideal.ieee]

/-- Every entry is at most the largest. -/
theorem le_top_of {n : ℕ} (a : Fin n → EReal) (k : Fin n) : a k ≤ top a := by
  unfold top
  exact (Finset.le_fold_max _).mpr (Or.inr ⟨k, Finset.mem_univ k, le_rfl⟩)

/-- A nonempty row of real scores has a real largest entry. -/
theorem top_real {n : ℕ} (a : Fin n → ℝ) (k : Fin n) : ∃ r : ℝ, top (fun j => (a j : EReal)) = r := by
  have h1 : top (fun j => (a j : EReal)) ≠ ⊥ := fun h => by
    have := le_top_of (fun j => (a j : EReal)) k
    rw [h] at this
    exact EReal.coe_ne_bot _ (le_bot_iff.mp this)
  have h2 : top (fun j => (a j : EReal)) ≠ ⊤ := by
    refine ne_of_lt ?_
    unfold top
    rw [Finset.fold_max_lt]
    exact ⟨by rw [ofBits_bot]; exact bot_lt_top, fun j _ => EReal.coe_lt_top _⟩
  exact ⟨_, (EReal.coe_toReal h2 h1).symm⟩

/-- A sum of reals, read in the extended reals. -/
theorem coe_sum_real {n : ℕ} (a : Fin n → ℝ) : ((∑ j, a j : ℝ) : EReal) = ∑ j, (a j : EReal) := by
  have h : ∀ s : Finset (Fin n), ((∑ j ∈ s, a j : ℝ) : EReal) = ∑ j ∈ s, (a j : EReal) := fun s => by
    induction s using Finset.induction_on with
    | empty => simp
    | insert b s hb ih => rw [Finset.sum_insert hb, Finset.sum_insert hb, EReal.coe_add, ih]
  exact h _

/-- The softmax of real scores is a nonnegative real. -/
theorem weight_real {n : ℕ} (a : Fin n → ℝ) (k : Fin n) : ∃ r : ℝ, 0 ≤ r ∧ weight (fun j => (a j : EReal)) k = r := by
  obtain ⟨t, ht⟩ := top_real a k
  have he : ∀ j, Ideal.exp ((a j : EReal) - (t : EReal)) = ((Real.exp (a j - t) : ℝ) : EReal) := fun j => by
    rw [← EReal.coe_sub]; rfl
  have hs : (∑ j, Ideal.exp ((a j : EReal) - (t : EReal))) = ((∑ j, Real.exp (a j - t) : ℝ) : EReal) := by
    rw [coe_sum_real]
    exact Finset.sum_congr rfl fun j _ => he j
  have hp : 0 < ∑ j, Real.exp (a j - t) := Finset.sum_pos (fun j _ => Real.exp_pos _) ⟨k, Finset.mem_univ k⟩
  refine ⟨Real.exp (a k - t) * (∑ j, Real.exp (a j - t))⁻¹, mul_nonneg (Real.exp_pos _).le (inv_nonneg.mpr hp.le), ?_⟩
  unfold weight
  simp only [ht]
  rw [he, hs]
  unfold Ideal.div
  rw [if_neg (fun h => hp.ne' (EReal.coe_eq_zero.mp h)), ← EReal.coe_inv, ← EReal.coe_mul]

/-- A row of products scaled by a nonnegative real, summed: the sum, scaled. -/
theorem scale_sum {n : ℕ} (r : ℝ) (hr : 0 ≤ r) (x w : Fin n → EReal) :
    (∑ d, x d * (r : EReal) * w d) = (r : EReal) * ∑ d, x d * w d := by
  have h : ∀ s : Finset (Fin n), (∑ d ∈ s, x d * (r : EReal) * w d) = (r : EReal) * ∑ d ∈ s, x d * w d := fun s => by
    induction s using Finset.induction_on with
    | empty => simp
    | insert a s ha ih =>
      rw [Finset.sum_insert ha, Finset.sum_insert ha, ih,
        EReal.left_distrib_of_nonneg_of_ne_top (EReal.coe_nonneg.mpr hr) (EReal.coe_ne_top r), mul_comm (x a) (r : EReal), mul_assoc]
  exact h _

/-- A sum of products of reals is real. -/
theorem sum_real {n : ℕ} (x w : Fin n → EReal) (hx : ∀ d, ∃ r : ℝ, x d = r) (hw : ∀ d, ∃ r : ℝ, w d = r) : ∃ r : ℝ, (∑ d, x d * w d) = r := by
  choose a ha using hx
  choose b hb using hw
  refine ⟨∑ d, a d * b d, ?_⟩
  rw [coe_sum_real]
  exact Finset.sum_congr rfl fun d _ => by rw [ha, hb, EReal.coe_mul]

/-! ## The layer -/

section
variable (x : (⟨2, ![512, 256]⟩ : Shape).Idx → EReal) (r : (⟨2, ![256, 64]⟩ : Shape).Idx → EReal)
  (ix : (⟨2, ![512, 1]⟩ : Shape).Idx → BitVec 32) (e : (⟨3, ![64, 256, 512]⟩ : Shape).Idx → EReal) (s : (⟨2, ![256, 512]⟩ : Shape).Idx → EReal)

/-- Token `i`'s scores. -/
def scores (i : Fin 512) (k : Fin 64) : EReal := ∑ d : Fin 256, x (ix2 i d) * r (ix2 d k)
/-- Token `i` through expert `k`, at column `o`. -/
def through (i : Fin 512) (k : Fin 64) (o : Fin 512) : EReal := ∑ d : Fin 256, x (ix2 i d) * e (ix3 k d o)
/-- Token `i` through the shared expert. -/
def shared (i o : Fin 512) : EReal := ∑ d : Fin 256, x (ix2 i d) * s (ix2 d o)
/-- Expert `k`'s part in token `i`'s result: its weighted product, if the token names it. -/
def part (i : Fin 512) (k : Fin 64) (o : Fin 512) : EReal :=
  if BitVec.ofNat 32 k.val = ix (ix2 i 0) then weight (scores x r i) k * through x e i k o else 0
/-- The layer's result. -/
def layer (i o : Fin 512) : EReal := shared x s i o + ∑ k : Fin 64, part x r ix e i k o

end

end Cert.Moe

end
-- ==== Proof.KernelIdeal.Payloads.lean ====
/-
The body's arithmetic over the extended reals, read at an index.
-/
module

public import proofs.«01_k».proof.Proof.KernelIdeal.Phases
public import proofs.«01_k».proof.Proof.Value.Model
public import Idealize.ShloMosaic.Lib.StableHlo.Predicate

@[expose] public section

noncomputable section

namespace Cert.KernelIdeal.Moe

open Cert.KernelIdeal Cert.KernelIdeal.Gen Cert.Moe
open Idealize.ShloMosaic
open Idealize.ShloMosaic.StableHlo.Predicate (cmpi_eq_iff)

set_option maxRecDepth 16384

/-- The exponentials of a row's scores below its largest. -/
theorem pay2_at (x : Vec Ideal S512x256 .f32) (r : Vec Ideal S256x64 .f32) (i : Fin 512) (k : Fin 64) :
    k0_pay2 x r (ix2 i k) = Ideal.exp (scores x r i k - top (scores x r i)) := by
  pointwise [k0_pay2, k0_pay1]
  rfl

/-- Their sum. -/
theorem pay3_at (x : Vec Ideal S512x256 .f32) (r : Vec Ideal S256x64 .f32) (i : Fin 512) :
    k0_pay3 x r (ix1 i) = ∑ k : Fin 64, Ideal.exp (scores x r i k - top (scores x r i)) := by
  pointwise [k0_pay3]
  exact Finset.sum_congr rfl fun k _ => pay2_at x r i k

/-- A selection on two words' equality. -/
theorem select_eq {α : Type} (u v : BitVec 32) (a b : α) : Scalar.select (IntOp.cmpi .eq u v) a b = if u = v then a else b := by
  by_cases h : u = v
  · subst h; simp [IntOp.cmpi, Scalar.select]
  · rw [if_neg h]
    exact if_neg fun e => h ((cmpi_eq_iff (a := u) (b := v)).mp e)

/-- The weight of column `k` where the token names it, zero elsewhere. -/
theorem pay4_at (x : Vec Ideal S512x256 .f32) (r : Vec Ideal S256x64 .f32) (ix : Vec Ideal S512x1 .i32) (i : Fin 512) (k : Fin 64) :
    k0_pay4 (k0_pay2 x r) (k0_pay3 x r) ix (ix2 i k) = if BitVec.ofNat 32 k.val = ix (ix2 i 0) then weight (scores x r i) k else 0 := by
  pointwise [k0_pay4]
  rw [pay2_at, pay3_at, select_eq]
  rfl

/-- Row `q` of slot `j`. -/
abbrev row (j : Fin 16) (q : Fin 32) : Fin 512 := ⟨j.val * 32 + q.val, by omega⟩
/-- Expert `e` of device `c`. -/
abbrev expert (c : Fin 16) (e : Fin 4) : Fin 64 := ⟨4 * c.val + e.val, by omega⟩

/-- A sum over the columns that keeps one of them. -/
theorem sum_column (f : Fin 64 → EReal) (k : Fin 64) (u : BitVec 32) (hu : u = BitVec.ofNat 32 k.val) :
    (∑ y : Fin 64, Scalar.select (IntOp.cmpi .eq (BitVec.ofNat 32 y.val) u) (f y) 0) = f k := by
  subst hu
  have hi : ∀ y : Fin 64, (BitVec.ofNat 32 y.val = BitVec.ofNat 32 k.val) = (y = k) := fun y => by
    refine propext ⟨fun h => Fin.ext ?_, fun h => by rw [h]⟩
    have h' := congrArg BitVec.toNat h
    simp only [BitVec.toNat_ofNat] at h'
    omega
  simp only [select_eq, hi]
  rw [Finset.sum_ite_eq' Finset.univ k f, if_pos (Finset.mem_univ k)]

/-- A token scaled by one expert's gate, through that expert: the expert's part. -/
theorem gated (x : Vec Ideal S512x256 .f32) (r : Vec Ideal S256x64 .f32) (ix : Vec Ideal S512x1 .i32) (E : (⟨3, ![64, 256, 512]⟩ : Shape).Idx → EReal)
    (W : Vec Ideal S1x256x512 .f32) (u : BitVec 32) (i o : Fin 512) (k : Fin 64) (hu : u = BitVec.ofNat 32 k.val)
    (hW : ∀ d : Fin 256, W (ix3 0 d o) = E (ix3 k d o)) (hw : ∃ t : ℝ, 0 ≤ t ∧ weight (scores x r i) k = t) :
    (∑ d : Fin 256, (x (ix2 i d) * ∑ y : Fin 64, Scalar.select (IntOp.cmpi .eq (BitVec.ofNat 32 y.val) u)
        (k0_pay4 (k0_pay2 x r) (k0_pay3 x r) ix (ix2 i y)) 0) * W (ix3 0 d o)) = part x r ix E i k o := by
  rw [sum_column _ k u hu, pay4_at]
  unfold part through
  split
  · obtain ⟨t, ht, e⟩ := hw
    rw [e]
    simp only [hW]
    exact scale_sum t ht _ _
  · simp

/-- The word of device `c`'s expert `e`. -/
theorem word_expert : ∀ (c : Dev nD) (e : Fin 4), Scalar.addi (Scalar.muli (myWord c) 4#32) (BitVec.ofNat 32 e.val) = BitVec.ofNat 32 (expert c e).val := by
  decide +kernel

/-- Device `c`'s partial sums: the parts of its four experts. -/
theorem partial_at (c : Dev nD) (x : Vec Ideal S512x256 .f32) (r : Vec Ideal S256x64 .f32) (ix : Vec Ideal S512x1 .i32)
    (E : (⟨3, ![64, 256, 512]⟩ : Shape).Idx → EReal) (W : Fin 4 → Vec Ideal S1x256x512 .f32)
    (hW : ∀ (e : Fin 4) (d : Fin 256) (o : Fin 512), W e (ix3 0 d o) = E (ix3 (expert c e) d o))
    (hw : ∀ i k, ∃ t : ℝ, 0 ≤ t ∧ weight (scores x r i) k = t) (j : Fin 16) (q : Fin 32) (o : Fin 512) :
    partialOf c x r ix (W 0) (W 1) (W 2) (W 3) (ix3 j q o) = ∑ e : Fin 4, part x r ix E (row j q) (expert c e) o := by
  unfold partialOf
  pointwise [k0_pay9, k0_pay6, k0_pay5, k0_pay1, k0_pay7, k0_pay8]
  have g : ∀ e : Fin 4, _ := fun e => gated x r ix E (W e) _ (row j q) o (expert c e) (word_expert c e) (fun d => hW e d o) (hw _ _)
  refine Eq.trans ?_ (Fin.sum_univ_four fun e => part x r ix E (row j q) (expert c e) o).symm
  exact congrArg₂ (· + ·) (congrArg₂ (· + ·) (congrArg₂ (· + ·) (g 0) (g 1)) (g 2)) (g 3)

/-- One addition: the received rows onto the sum. -/
theorem pay12_at (a : FVec Ideal S32x512 .f32) (Y : Vec Ideal S1x32x512 .bf16) (q : Fin 32) (o : Fin 512) :
    k0_pay12 a Y (ix2 q o) = a (ix2 q o) + Y (ix3 0 q o) := by
  pointwise [k0_pay12]

/-- The rows' start: the shared expert's product and the device's own partial sums. -/
theorem pay10_at (x : Vec Ideal S32x256 .f32) (W : Vec Ideal S256x512 .f32) (Y : Vec Ideal S1x32x512 .bf16) (q : Fin 32) (o : Fin 512) :
    k0_pay10 x W Y (ix2 q o) = (∑ d : Fin 256, x (ix2 q d) * W (ix2 d o)) + Y (ix3 0 q o) := by
  pointwise [k0_pay10]

end Cert.KernelIdeal.Moe
end
-- ==== Proof.KernelIdeal.Value.lean ====
/-
The result buffer over the extended reals: the layer of the whole arrays.
-/
module

public import proofs.«01_k».proof.Proof.KernelIdeal.Payloads
public import proofs.«01_k».proof.Proof.KernelIdeal.Out

@[expose] public section

noncomputable section

namespace Cert.KernelIdeal.Moe

open Cert.KernelIdeal Cert.KernelIdeal.Gen Cert.Moe
open Idealize.ShloMosaic

set_option maxRecDepth 16384

/-- The devices one after the other from `c` on, summed: all devices. -/
theorem sum_devices (f : Dev nD → EReal) (c : Dev nD) : f c + ∑ r : Fin 15, f (nbr c r.succ) = ∑ p : Dev nD, f p := by
  have hb : Function.Bijective (nbr c) := by
    rw [← Finite.injective_iff_bijective]
    revert c; decide +kernel
  rw [← hb.sum_comp f]
  refine Eq.symm ((Fin.sum_univ_succ (n := 15) fun o => f (nbr c o)).trans ?_)
  have h0 : nbr c 0 = c := by revert c; decide +kernel
  rw [h0]

/-- The experts device by device. -/
theorem sum_experts (f : Fin 64 → EReal) : (∑ p : Fin 16, ∑ e : Fin 4, f (expert p e)) = ∑ k : Fin 64, f k := by
  rw [← Fintype.sum_prod_type' fun p e => f (expert p e)]
  refine Fintype.sum_equiv (finProdFinEquiv (m := 16) (n := 4)) _ _ fun pe => congrArg f (Fin.ext ?_)
  show 4 * pe.1.val + pe.2.val = pe.2.val + 4 * pe.1.val
  omega

variable (m : (ℓ : Loc nD τ sig) → Buf (Elt Ideal) ℓ)

/-- What every device holds: the whole arrays, and its own four experts. -/
structure Holds (x : (⟨2, ![512, 256]⟩ : Shape).Idx → EReal) (r : (⟨2, ![256, 64]⟩ : Shape).Idx → EReal)
    (ix : (⟨2, ![512, 1]⟩ : Shape).Idx → BitVec 32) (E : (⟨3, ![64, 256, 512]⟩ : Shape).Idx → EReal) (s : (⟨2, ![256, 512]⟩ : Shape).Idx → EReal) : Prop where
  /-- The tokens. -/
  hx : ∀ c, inX m c = x
  /-- The router's weights. -/
  hr : ∀ c, inR m c = r
  /-- The chosen experts. -/
  hi : ∀ c, inI m c = ix
  /-- The device's experts. -/
  he : ∀ (c : Dev nD) (e : Fin 4) (d : Fin 256) (o : Fin 512), inE m c (ix3 e d o) = E (ix3 (expert c e) d o)
  /-- The shared expert. -/
  hs : ∀ c, inS m c = s
  /-- Every weight is a nonnegative real. -/
  hw : ∀ i k, ∃ t : ℝ, 0 ≤ t ∧ weight (scores x r i) k = t

variable {m} {x : (⟨2, ![512, 256]⟩ : Shape).Idx → EReal} {r : (⟨2, ![256, 64]⟩ : Shape).Idx → EReal}
  {ix : (⟨2, ![512, 1]⟩ : Shape).Idx → BitVec 32} {E : (⟨3, ![64, 256, 512]⟩ : Shape).Idx → EReal} {s : (⟨2, ![256, 512]⟩ : Shape).Idx → EReal}

/-- One expert read off the four. -/
theorem read_expert (v : S4x256x512.Idx → EReal) (e : Fin 4) (hi : ∀ a, (![e.val, 0, 0] : Fin 3 → ℕ) a + S1x256x512.size a ≤ S4x256x512.size a)
    (d : Fin 256) (o : Fin 512) :
    (Memref.whole cc0_stg3_0).view.readAt (Elt Ideal) (Rect.unit (s := S4x256x512) ![e.val, 0, 0] S1x256x512.size hi).toLoadRect v (ix3 0 d o) = v (ix3 e d o) := by
  refine congrArg v (funext fun a => Fin.ext ?_)
  match a with
  | ⟨0, _⟩ => show e.val + 1 * 0 = e.val; omega
  | ⟨1, _⟩ => show 0 + 1 * d.val = d.val; omega
  | ⟨2, _⟩ => show 0 + 1 * o.val = o.val; omega

/-- Thirty-two rows read off the tokens. -/
theorem read_rows_at (c : Dev nD) (off : Fin 2 → ℕ) (hi : ∀ a, off a + S32x256.size a ≤ S512x256.size a) (ho : off = ![32 * c.val, 0])
    (v : S512x256.Idx → EReal) (q : Fin 32) (d : Fin 256) :
    (Memref.whole cc0_stg0_0).view.readAt (Elt Ideal) (Rect.unit (s := S512x256) off S32x256.size hi).toLoadRect v (ix2 q d) = v (ix2 (row c q) d) := by
  subst ho
  refine congrArg v (funext fun a => Fin.ext ?_)
  match a with
  | ⟨0, _⟩ => show 32 * c.val + 1 * q.val = c.val * 32 + q.val; omega
  | ⟨1, _⟩ => show 0 + 1 * d.val = d.val; omega

/-- The device's own rows read off the tokens. -/
theorem read_rows (c : Dev nD) (v : S512x256.Idx → EReal) (q : Fin 32) (d : Fin 256) :
    (Memref.whole cc0_stg0_0).view.readAt (Elt Ideal) (Rect.unit (s := S512x256) (k0_off5 c) S32x256.size (k0_off5_inb c)).toLoadRect v (ix2 q d) = v (ix2 (row c q) d) :=
  read_rows_at c _ (k0_off5_inb c) (k0_off5_eq c) v q d

/-- What device `p` sends device `j`. -/
theorem prow_at (H : Holds m x r ix E s) (p j : Dev nD) (q : Fin 32) (o : Fin 512) :
    prow m p j (ix2 q o) = ∑ e : Fin 4, Cert.Moe.part x r ix E (row j q) (expert p e) o := by
  have h := partial_at p x r ix E
    (fun e => (Memref.whole cc0_stg3_0).view.readAt (Elt Ideal) (Rect.unit (s := S4x256x512) ![e.val, 0, 0] S1x256x512.size (by revert e; decide)).toLoadRect (inE m p))
    (fun e d o => (read_expert _ e _ d o).trans (H.he p e d o)) H.hw j q o
  refine Eq.trans ?_ h
  show partialBuf m p (ix3 (j : Fin 16) q o) = _
  unfold partialBuf
  rw [H.hx, H.hr, H.hi]
  rfl

/-- The sum so far. -/
theorem fold_at (c : Dev nD) (q : Fin 32) (o : Fin 512) (l : List (Fin 15)) (a : FVec Ideal S32x512 .f32) :
    (l.foldl (addStep m c) a) (ix2 q o) = (a (ix2 q o) : EReal) + (l.map fun r => (prow m (nbr c r.succ) c (ix2 q o) : EReal)).sum := by
  induction l generalizing a with
  | nil => simp
  | cons r l ih =>
    rw [List.foldl_cons, ih, List.map_cons, List.sum_cons]
    unfold addStep
    rw [pay12_at, ← add_assoc]
    rfl

/-- Device `c`'s rows of the result. -/
theorem red_at (H : Holds m x r ix E s) (c : Dev nD) (q : Fin 32) (o : Fin 512) : red m c (ix2 q o) = layer x r ix E s (row c q) o := by
  have hl : ((steps.map fun r => (prow m (nbr c r.succ) c (ix2 q o) : EReal)).sum) = ∑ r : Fin 15, (prow m (nbr c r.succ) c (ix2 q o) : EReal) := by
    rw [← List.sum_ofFn]; rfl
  unfold red acc0
  rw [fold_at, hl, pay10_at, add_assoc, H.hx, H.hs]
  have ho : (unsq (prow m c c) (ix3 0 q o) : EReal) = prow m c c (ix2 q o) := rfl
  rw [ho]
  unfold layer shared
  refine congrArg₂ (· + ·) (Finset.sum_congr rfl fun d _ => by rw [read_rows]) ?_
  refine (sum_devices (fun p => prow m p c (ix2 q o)) c).trans ?_
  rw [← sum_experts fun k => Cert.Moe.part x r ix E (row c q) k o]
  exact Finset.sum_congr rfl fun p _ => prow_at H p c q o

/-- Its rows as it sends them: the same extended reals. -/
theorem brow_at (c : Dev nD) (q : Fin 32) (o : Fin 512) : (brow m c (ix2 q o) : EReal) = red m c (ix2 q o) := by
  unfold brow bcastOf
  pointwise

/-- The result device `c` stores: the layer. -/
theorem out_at (H : Holds m x r ix E s) (c : Dev nD) (i o : Fin 512) : outAt m c (ix2 i o) = layer x r ix E s i o := by
  have hrow : row (slotOf i) (inSlot i) = i := Fin.ext (by show i.val / 32 * 32 + i.val % 32 = i.val; omega)
  have hred : ∀ j : Dev nD, slotOf i = j → (red m j (ix2 (inSlot i) o) : EReal) = layer x r ix E s i o := fun j hj => by
    subst hj
    rw [red_at H, hrow]
  unfold outAt
  refine (write_rows c _ _ i o).trans ?_
  split
  · next h => exact hred c h
  · refine (pay23_apply _ i o).trans ?_
    refine Eq.trans ?_ ((brow_at (slotOf i) (inSlot i) o).trans (hred _ rfl))
    rfl

end Cert.KernelIdeal.Moe

end
-- ==== Proof.Value.Finite.lean ====
/-
The precondition read back: the tokens and the router's weights are real, and so is every weight of the softmax.
-/
module

public import proofs.«01_k».proof.Proof.Gen.Pre_finite_scores_KernelIdeal
public import proofs.«01_k».proof.Proof.Value.Model
public import Idealize.ShloMosaic.Lib.Pointwise
public import Idealize.ShloMosaic.Lib.ReduceAll
public import Idealize.ShloMosaic.Lib.StableHlo.Predicate

@[expose] public section

noncomputable section

namespace Cert.Moe

open Idealize.ShloMosaic

/-- An extended real whose absolute value lies below the pattern of plus infinity is a real. -/
theorem real_of_below (v : Ideal .f32) (h : FloatOps.cmpf .olt (FloatOps.hostAbsf v) (Ideal.ofBits .f32 0x7F800000#32 : Ideal .f32) = 1#1) : ∃ t : ℝ, (v : EReal) = t := by
  rw [ofBits_top] at h
  have hm : max (v : EReal) (-v) < ⊤ := by
    by_contra hn
    have h0 : FloatOps.cmpf .olt (FloatOps.hostAbsf v) (⊤ : Ideal .f32) = BitVec.ofBool (decide (max (v : EReal) (-v) < ⊤)) := rfl
    rw [h0, decide_eq_false hn] at h
    exact absurd h (by decide)
  have h1 : (v : EReal) ≠ ⊤ := ((le_max_left _ _).trans_lt hm).ne
  have h2 : (v : EReal) ≠ ⊥ := fun e => ((le_max_right _ _).trans_lt hm).ne (by rw [e]; rfl)
  exact ⟨_, (EReal.coe_toReal h1 h2).symm⟩

/-- Both of two bits whose conjunction is one are one. -/
theorem both_one : ∀ a b : BitVec 1, IntOp.andi a b = 1#1 → a = 1#1 ∧ b = 1#1 := by decide

/-- Under the precondition the tokens and the router's weights are real. -/
theorem real_args (x : FVec Ideal ⟨2, ![512, 256]⟩ .f32) (r : FVec Ideal ⟨2, ![256, 64]⟩ .f32) (ix : IVec ⟨2, ![512, 1]⟩ 32)
    (e : FVec Ideal ⟨3, ![4, 256, 512]⟩ .f32) (s : FVec Ideal ⟨2, ![256, 512]⟩ .f32)
    (h : Cert.Pre_finite_scores_KernelIdeal.fn (F := Ideal) x r ix e s = fun _ => 1#1) :
    (∀ i, ∃ t : ℝ, (x i : EReal) = t) ∧ ∀ i, ∃ t : ℝ, (r i : EReal) = t := by
  have hs : Subsingleton (Cert.Pre_finite_scores_KernelIdeal.S_).Idx := ⟨fun a b => funext fun i => i.elim0⟩
  have h0 := congrFun h (fun a => a.elim0)
  unfold Cert.Pre_finite_scores_KernelIdeal.fn at h0
  obtain ⟨h1, h2⟩ := both_one _ _ h0
  exact ⟨fun i => real_of_below _ (Host.reduce_andi_all _ _ _ _ _ h1 i), fun i => real_of_below _ (Host.reduce_andi_all _ _ _ _ _ h2 i)⟩

/-- Real tokens and real router's weights give nonnegative real softmax weights. -/
theorem weights_real (x : (⟨2, ![512, 256]⟩ : Shape).Idx → EReal) (r : (⟨2, ![256, 64]⟩ : Shape).Idx → EReal)
    (hx : ∀ i, ∃ t : ℝ, x i = t) (hr : ∀ i, ∃ t : ℝ, r i = t) (i : Fin 512) (k : Fin 64) : ∃ t : ℝ, 0 ≤ t ∧ weight (scores x r i) k = t := by
  have hs : ∀ k, ∃ t : ℝ, scores x r i k = t := fun k => sum_real _ _ (fun _ => hx _) (fun _ => hr _)
  choose a ha using hs
  rw [show scores x r i = fun k => (a k : EReal) from funext ha]
  exact weight_real a k

end Cert.Moe

end
-- ==== Proof.KernelIdeal.Result.lean ====
/-
The kernel's run over the extended reals: every device ends with the layer of the whole arrays.
-/
module

public import proofs.«01_k».proof.Proof.KernelIdeal.Value
public import proofs.«01_k».proof.Proof.KernelIdeal.Launch
public import proofs.«01_k».proof.Proof.Value.Finite
public import proofs.«01_k».proof.Defs
public import Idealize.ShloMosaic.Lib.Pipeline.ValueKit

@[expose] public section

noncomputable section

namespace Cert.KernelIdeal.Moe

open Cert.KernelIdeal Cert.KernelIdeal.Gen Cert.Moe
open Idealize.ShloMosaic Idealize.SL.Sem

set_option maxRecDepth 16384

variable (m : (ℓ : Loc nD τ sig) → Buf (Elt Ideal) ℓ) (ρ : Dev nD → PrngReg)

/-- The result array at the end is the result buffer. -/
theorem final_out (c : Dev nD) : finalA m ρ c 5 = outAt m c := by
  unfold finalA
  refine (dats m ρ 0 c).arrAt_eq_of_after_last 5 t0_0 (by decide +kernel) _ fun j => ?_
  blk_simp
  rfl

/-- The four staged inputs that are whole arrays. -/
theorem whole_x (c : Dev nD) : inX m c = m ((c.tc : Thread nD τ).loc main_arg0) := by
  have hz : ∀ a, win0_0.index t0_0 a = 0 := by decide +kernel
  funext i
  unfold inX
  blk_ext [iblk, V, hz]
/-- The router's weights. -/
theorem whole_r (c : Dev nD) : inR m c = m ((c.tc : Thread nD τ).loc main_arg1) := by
  have hz : ∀ a, win0_1.index t0_0 a = 0 := by decide +kernel
  funext i
  unfold inR
  blk_ext [iblk, V, hz]
/-- The chosen experts. -/
theorem whole_i (c : Dev nD) : inI m c = m ((c.tc : Thread nD τ).loc main_arg2) := by
  have hz : ∀ a, win0_2.index t0_0 a = 0 := by decide +kernel
  funext i
  unfold inI
  blk_ext [iblk, V, hz]
/-- The device's experts. -/
theorem whole_e (c : Dev nD) : inE m c = m ((c.tc : Thread nD τ).loc main_arg3) := by
  have hz : ∀ a, win0_3.index t0_0 a = 0 := by decide +kernel
  funext i
  unfold inE
  blk_ext [iblk, V, hz]
/-- The shared expert. -/
theorem whole_s (c : Dev nD) : inS m c = m ((c.tc : Thread nD τ).loc main_arg4) := by
  have hz : ∀ a, win0_4.index t0_0 a = 0 := by decide +kernel
  funext i
  unfold inS
  blk_ext [iblk, V, hz]

variable {m}
variable {x : (⟨2, ![512, 256]⟩ : Shape).Idx → EReal} {r : (⟨2, ![256, 64]⟩ : Shape).Idx → EReal}
  {ix : (⟨2, ![512, 1]⟩ : Shape).Idx → BitVec 32} {E : (⟨3, ![64, 256, 512]⟩ : Shape).Idx → EReal} {s : (⟨2, ![256, 512]⟩ : Shape).Idx → EReal}

/-- What every device holds, from its arguments and the precondition. -/
theorem holds_of (hpre : Cert.Pre_KernelIdeal_finite_scores_KernelIdeal m)
    (h : ∀ c : Dev nD, m ((c.tc : Thread nD τ).loc main_arg0) = x ∧ m ((c.tc : Thread nD τ).loc main_arg1) = r
      ∧ m ((c.tc : Thread nD τ).loc main_arg2) = ix
      ∧ m ((c.tc : Thread nD τ).loc main_arg3) = Layout.block ⟨3, ![4, 256, 512]⟩ ⟨3, ![64, 256, 512]⟩ 0 16 c E
      ∧ m ((c.tc : Thread nD τ).loc main_arg4) = s) : Holds m x r ix E s where
  hx c := (whole_x m c).trans (h c).1
  hr c := (whole_r m c).trans (h c).2.1
  hi c := (whole_i m c).trans (h c).2.2.1
  he c e d o := by
    rw [whole_e m c, (h c).2.2.2.1]
    refine congrArg E (funext fun a => Fin.ext ?_)
    match a with
    | ⟨0, _⟩ => show c.val * 4 + e.val = 4 * c.val + e.val; omega
    | ⟨1, _⟩ => rfl
    | ⟨2, _⟩ => rfl
  hs c := (whole_s m c).trans (h c).2.2.2.2
  hw i k := by
    have hp := real_args _ _ _ _ _ (hpre 0)
    rw [(h 0).1, (h 0).2.1] at hp
    exact weights_real x r hp.1 hp.2 i k

/-- Every run ends, each device's result being the layer and its arguments unchanged. -/
theorem run_layer [∀ e, Nonempty (Elt Ideal e)] (H : Holds m x r ix E s) : θ_run defs (onTc (τ := τ) (main (F := Ideal))) (s₀ m ρ) (fun q => ∀ c : Dev nD,
      (q.2.mem ((c.tc : Thread nD τ).loc main_v1) = fun j => layer x r ix E s (j 0) (j 1))
      ∧ q.2.mem ((c.tc : Thread nD τ).loc main_arg0) = m ((c.tc : Thread nD τ).loc main_arg0)
      ∧ q.2.mem ((c.tc : Thread nD τ).loc main_arg1) = m ((c.tc : Thread nD τ).loc main_arg1)
      ∧ q.2.mem ((c.tc : Thread nD τ).loc main_arg2) = m ((c.tc : Thread nD τ).loc main_arg2)
      ∧ q.2.mem ((c.tc : Thread nD τ).loc main_arg3) = m ((c.tc : Thread nD τ).loc main_arg3)
      ∧ q.2.mem ((c.tc : Thread nD τ).loc main_arg4) = m ((c.tc : Thread nD τ).loc main_arg4)) := by
  refine (θ_run defs _ _).mono (fun q h c => ⟨?_, (h.1 c 0).trans ((dats m ρ 0 c).arrAt_in 0 rfl _), (h.1 c 1).trans ((dats m ρ 0 c).arrAt_in 1 rfl _),
    (h.1 c 2).trans ((dats m ρ 0 c).arrAt_in 2 rfl _), (h.1 c 3).trans ((dats m ρ 0 c).arrAt_in 3 rfl _), (h.1 c 4).trans ((dats m ρ 0 c).arrAt_in 4 rfl _)⟩) (run_main m ρ)
  refine ((h.1 c 5).trans (final_out m ρ c)).trans (funext fun j => ?_)
  obtain ⟨i, o, rfl⟩ : ∃ i o, j = ix2 i o := ⟨j 0, j 1, ValueIdx.eq_ix2 j⟩
  exact out_at H c i o

end Cert.KernelIdeal.Moe

end
-- ==== Proof.Value.Gather.lean ====
/-
Two gathers read at an index: one entry of each row of a table, and one matrix of a stack for each row.
-/
module

public import proofs.«01_k».proof.Proof.Gen.ReferenceIdeal
public import Idealize.ShloMosaic.Lib.Pointwise

@[expose] public section

noncomputable section

namespace Cert.ReferenceIdeal.Moe

open Cert.ReferenceIdeal Cert.ReferenceIdeal.Gen
open Idealize.ShloMosaic

/-- The place in a sequence of `n` that a word names, the word read signed and clamped. -/
def clamp (n : ℕ) [NeZero n] (w : BitVec 32) : Fin n := ⟨min w.toInt.toNat (n - 1), by have := NeZero.pos n; omega⟩

/-- The entry of row `i` that the row's word names. -/
theorem gather_entry {α : Type} (x : S512x64.Idx → α) (idx : IVec S512x1x1 32) (i : Fin 512) :
    Host.gather gather_S512x64_S512x1x1_S512x1_n_1_0_0_1_2_11 x idx (ix2 i 0) = x (ix2 i (clamp 64 (idx (ix3 i 0 0)))) := by
  unfold Host.gather
  congr 1
  funext a
  refine Fin.ext ?_
  unfold GatherDims.operandIdx
  match a with
  | ⟨0, _⟩ =>
    show GatherDims.start gather_S512x64_S512x1x1_S512x1_n_1_0_0_1_2_11 (ix2 i 0) idx (0 : Fin 2) + GatherDims.batchCoord gather_S512x64_S512x1x1_S512x1_n_1_0_0_1_2_11 (ix2 i 0) (0 : Fin 2) + GatherDims.offCoord gather_S512x64_S512x1x1_S512x1_n_1_0_0_1_2_11 (ix2 i 0) (0 : Fin 2) = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S512x64_S512x1x1_S512x1_n_1_0_0_1_2_11.operandBatchingDims from List.mem_singleton.mpr rfl)]
    rfl
  | ⟨1, _⟩ =>
    show GatherDims.start gather_S512x64_S512x1x1_S512x1_n_1_0_0_1_2_11 (ix2 i 0) idx (1 : Fin 2) + GatherDims.batchCoord gather_S512x64_S512x1x1_S512x1_n_1_0_0_1_2_11 (ix2 i 0) (1 : Fin 2) + GatherDims.offCoord gather_S512x64_S512x1x1_S512x1_n_1_0_0_1_2_11 (ix2 i 0) (1 : Fin 2) = _
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S512x64_S512x1x1_S512x1_n_1_0_0_1_2_11.startIndexMap from List.mem_singleton.mpr rfl)]
    have hsi : gather_S512x64_S512x1x1_S512x1_n_1_0_0_1_2_11.siIdx (ix2 i 0) ⟨List.idxOf (1 : Fin 2) gather_S512x64_S512x1x1_S512x1_n_1_0_0_1_2_11.startIndexMap, List.idxOf_lt_length_iff.2 (List.mem_singleton.mpr rfl)⟩ = ix3 i 0 0 := by
      funext b; refine Fin.ext ?_
      match b with
      | ⟨0, _⟩ => rfl
      | ⟨1, _⟩ => rfl
      | ⟨2, _⟩ => rfl
    rw [hsi]
    rfl

/-- The matrix that row `i`'s word names. -/
theorem gather_matrix {α : Type} (x : S64x256x512.Idx → α) (idx : IVec S512x1 32) (i : Fin 512) (d : Fin 256) (o : Fin 512) :
    Host.gather gather_S64x256x512_S512x1_S512x256x512_12_0_n_n_0_1_1256512 x idx (ix3 i d o) = x (ix3 (clamp 64 (idx (ix2 i 0))) d o) := by
  unfold Host.gather
  congr 1
  funext a
  refine Fin.ext ?_
  unfold GatherDims.operandIdx
  match a with
  | ⟨0, _⟩ =>
    show GatherDims.start gather_S64x256x512_S512x1_S512x256x512_12_0_n_n_0_1_1256512 (ix3 i d o) idx (0 : Fin 3) + GatherDims.batchCoord gather_S64x256x512_S512x1_S512x256x512_12_0_n_n_0_1_1256512 (ix3 i d o) (0 : Fin 3) + GatherDims.offCoord gather_S64x256x512_S512x1_S512x256x512_12_0_n_n_0_1_1256512 (ix3 i d o) (0 : Fin 3) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S64x256x512_S512x1_S512x256x512_12_0_n_n_0_1_1256512.startIndexMap from List.mem_singleton.mpr rfl)]
    have hsi : gather_S64x256x512_S512x1_S512x256x512_12_0_n_n_0_1_1256512.siIdx (ix3 i d o) ⟨List.idxOf (0 : Fin 3) gather_S64x256x512_S512x1_S512x256x512_12_0_n_n_0_1_1256512.startIndexMap, List.idxOf_lt_length_iff.2 (List.mem_singleton.mpr rfl)⟩ = ix2 i 0 := by
      funext b; refine Fin.ext ?_
      match b with
      | ⟨0, _⟩ => rfl
      | ⟨1, _⟩ => rfl
    rw [hsi]
    rfl
  | ⟨1, _⟩ =>
    show GatherDims.start gather_S64x256x512_S512x1_S512x256x512_12_0_n_n_0_1_1256512 (ix3 i d o) idx (1 : Fin 3) + GatherDims.batchCoord gather_S64x256x512_S512x1_S512x256x512_12_0_n_n_0_1_1256512 (ix3 i d o) (1 : Fin 3) + GatherDims.offCoord gather_S64x256x512_S512x1_S512x256x512_12_0_n_n_0_1_1256512 (ix3 i d o) (1 : Fin 3) = d.val
    rw [GatherDims.batchCoord_eq_zero _ _ _ List.not_mem_nil]
    unfold GatherDims.start
    rw [dif_neg (by decide)]
    simp only [Nat.zero_add]
    rfl
  | ⟨2, _⟩ =>
    show GatherDims.start gather_S64x256x512_S512x1_S512x256x512_12_0_n_n_0_1_1256512 (ix3 i d o) idx (2 : Fin 3) + GatherDims.batchCoord gather_S64x256x512_S512x1_S512x256x512_12_0_n_n_0_1_1256512 (ix3 i d o) (2 : Fin 3) + GatherDims.offCoord gather_S64x256x512_S512x1_S512x256x512_12_0_n_n_0_1_1256512 (ix3 i d o) (2 : Fin 3) = o.val
    rw [GatherDims.batchCoord_eq_zero _ _ _ List.not_mem_nil]
    unfold GatherDims.start
    rw [dif_neg (by decide)]
    simp only [Nat.zero_add]
    rfl

end Cert.ReferenceIdeal.Moe

end
-- ==== Proof.Value.Reference.lean ====
/-
The reference's run over the extended reals: the layer of its arguments.
-/
module

public import proofs.«01_k».proof.Proof.Gen.ReferenceIdeal.Run
public import proofs.«01_k».proof.Proof.Value.Gather
public import proofs.«01_k».proof.Proof.Value.Model
public import Idealize.ShloMosaic.Lib.StableHlo.Predicate

@[expose] public section

noncomputable section

namespace Cert.ReferenceIdeal.Moe

open Cert.ReferenceIdeal Cert.ReferenceIdeal.Gen Cert.Moe
open Idealize.ShloMosaic Idealize.SL.Sem

set_option maxRecDepth 16384

/-- A negative word is not at least zero. -/
theorem sge_zero_of_neg (w : BitVec 32) (h : w.toInt < 0) : IntOp.cmpi .sge w 0#32 = 0#1 := by
  have hn : ¬ (0 : ℤ) ≤ w.toInt := not_le.mpr h
  simp only [IntOp.cmpi, BitVec.sle, BitVec.toInt_zero, decide_eq_false hn, BitVec.ofBool_false]
  rfl

/-- A sum over the experts that keeps the named one: that one's term if the word is an expert's number, zero if not. -/
theorem sum_named (f : Fin 64 → EReal) (w : BitVec 32) :
    (∑ k : Fin 64, if BitVec.ofNat 32 k.val = w then f k else 0)
      = Scalar.select (IntOp.andi (IntOp.cmpi .sge w 0#32) (IntOp.cmpi .slt w 64#32)) (f (clamp 64 w)) 0 := by
  by_cases h : w.toNat < 64
  · have hn : w.toInt = w.toNat := by rw [BitVec.toInt_eq_toNat_cond]; omega
    have hc : (clamp 64 w).val = w.toNat := by show min w.toInt.toNat 63 = _; omega
    have hk : ∀ k : Fin 64, (BitVec.ofNat 32 k.val = w) = (k = clamp 64 w) := fun k => by
      refine propext ⟨fun e => Fin.ext ?_, fun e => ?_⟩
      · rw [hc, ← e, BitVec.toNat_ofNat]; omega
      · rw [e, hc]; exact BitVec.eq_of_toNat_eq (by rw [BitVec.toNat_ofNat]; omega)
    simp only [hk]
    rw [Finset.sum_ite_eq' Finset.univ (clamp 64 w) f, if_pos (Finset.mem_univ _)]
    have h1 : IntOp.cmpi .sge w 0#32 = 1#1 := (StableHlo.Predicate.sge_iff_toNat (by omega) (by decide)).mpr (Nat.zero_le _)
    have h2 : IntOp.cmpi .slt w 64#32 = 1#1 := (StableHlo.Predicate.slt_iff_toNat (by omega) (by decide)).mpr h
    rw [h1, h2]; rfl
  · have hk : ∀ k : Fin 64, ¬ BitVec.ofNat 32 k.val = w := fun k e => h (by rw [← e, BitVec.toNat_ofNat]; omega)
    simp only [hk, if_false, Finset.sum_const_zero]
    have hz : IntOp.andi (IntOp.cmpi .sge w 0#32) (IntOp.cmpi .slt w 64#32) = 0#1 := by
      by_cases hb : w.toNat < 2 ^ 31
      · have h2 : IntOp.cmpi .slt w 64#32 = 0#1 := ValueIdx.eq_zero_of_ne_one fun e => h ((StableHlo.Predicate.slt_iff_toNat hb (by decide)).mp e)
        rw [h2]; exact BitVec.and_zero
      · have h1 : IntOp.cmpi .sge w 0#32 = 0#1 := by
          have hn : w.toInt < 0 := by rw [BitVec.toInt_eq_toNat_cond]; omega
          exact sge_zero_of_neg w hn
        rw [h1]; exact BitVec.zero_and
    rw [hz]; rfl

/-- A word of a token's own choice, wrapped when negative, names the same clamped place if it is an expert's number. -/
theorem wrapped (w : BitVec 32) (h : IntOp.andi (IntOp.cmpi .sge w 0#32) (IntOp.cmpi .slt w 64#32) = 1#1) :
    Scalar.select (IntOp.cmpi .slt w 0#32) (IntOp.addi w 64#32) w = w := by
  have h1 : IntOp.cmpi .slt w 0#32 = 0#1 := by
    refine ValueIdx.eq_zero_of_ne_one fun e => ?_
    have hn : w.toInt < 0 := by
      by_contra hn
      simp only [IntOp.cmpi, BitVec.slt, BitVec.toInt_zero, decide_eq_false hn, BitVec.ofBool_false] at e
      exact absurd e (by decide)
    have hs := sge_zero_of_neg w hn
    rw [hs] at h
    exact absurd (h.symm.trans BitVec.zero_and) (by decide)
  rw [h1]; rfl

/-- Every run of the reference leaves the layer of its arguments, and its arguments as they were. -/
theorem run_layer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ i o : Fin 512, r.2.mem ((c.tc : Thread nD τ).loc main_v23) (ix2 i o)
        = layer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) i o)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨fun i o => ?_, (h c).2⟩) (Value.run m ρ)
  rw [(h c).1]
  clear h
  generalize m ((c.tc : Thread nD τ).loc main_arg0) = x
  generalize m ((c.tc : Thread nD τ).loc main_arg1) = w
  generalize m ((c.tc : Thread nD τ).loc main_arg2) = ix
  generalize m ((c.tc : Thread nD τ).loc main_arg3) = e
  generalize m ((c.tc : Thread nD τ).loc main_arg4) = s
  pointwise
  rw [gather_entry]
  simp only [gather_matrix]
  pointwise
  have hz : (id (constant S_ FTy.f32 0#32 : FVec Ideal S_ .f32) ValueIdx.ix0 : EReal) = 0 := by
    show Ideal.ofBits .f32 0#32 = 0
    simp [Ideal.ofBits, Ideal.ieee]
  unfold layer shared part
  rw [sum_named]
  refine congrArg₂ (· + ·) rfl ?_
  by_cases h : IntOp.andi (IntOp.cmpi .sge (ix (ix2 i 0)) 0#32) (IntOp.cmpi .slt (ix (ix2 i 0)) 64#32) = 1#1
  · rw [wrapped _ h, h]
    rfl
  · rw [ValueIdx.eq_zero_of_ne_one h]
    exact hz

end Cert.ReferenceIdeal.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores_KernelIdeal
public import proofs.«01_k».proof.Proof.Gen.Pre_finite_scores_ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Result
public import proofs.«01_k».proof.Proof.Value.Reference
public import Idealize.ShloMosaic.Adequacy
public import Idealize.ShloMosaic.Init

@[expose] public section

noncomputable section

namespace Cert.Proof

open Idealize.ShloMosaic Idealize.SL.Sem

/-- Every element type has an element, bit for bit. -/
instance nonempty_bits : ∀ e, Nonempty (Elt Bits e) := fun e => by
  cases e <;> exact ⟨(0 : BitVec _)⟩

/-- Every element type has an element over the extended reals. -/
instance nonempty_ideal : ∀ e, Nonempty (Elt Ideal e) := fun e => by
  cases e <;> first | exact ⟨(0 : EReal)⟩ | exact ⟨(0 : BitVec _)⟩

/-- The kernel's frame, bit for bit. -/
theorem frame_kernel : Cert.quiescent_Kernel (hKernel := Cert.Kernel.Gen.facts) :=
  fun m g _ => Cert.Kernel.Moe.run_frame m g

/-- The kernel's frame over the extended reals. -/
theorem frame_ideal : Cert.quiescent_KernelIdeal (hKernelIdeal := Cert.KernelIdeal.Gen.facts) :=
  fun m g _ => Cert.KernelIdeal.Moe.run_frame m g

/-- The same where the precondition holds. -/
theorem frame_ideal_pre : Cert.quiescent_KernelIdeal_pre_finite_scores_KernelIdeal (hKernelIdeal := Cert.KernelIdeal.Gen.facts)
    (hPre_finite_scores_KernelIdeal := Cert.Pre_finite_scores_KernelIdeal.Gen.facts) :=
  fun m g _ => Cert.KernelIdeal.Moe.run_frame m g

/-- The reference's frame. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Moe.run_layer m g)

/-- The same where the precondition holds. -/
theorem frame_reference_pre : Cert.quiescent_ReferenceIdeal_pre_finite_scores_ReferenceIdeal (hReferenceIdeal := Cert.ReferenceIdeal.Gen.facts)
    (hPre_finite_scores_ReferenceIdeal := Cert.Pre_finite_scores_ReferenceIdeal.Gen.facts) := fun m g _ =>
  frame_reference m g trivial

/-- The kernel's result on every device is the reference's. -/
theorem same_layer : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := Cert.Pre_finite_scores_KernelIdeal.Gen.facts) :=
  fun m g m' g' hpre hagree =>
    ⟨fun j : (⟨2, ![512, 512]⟩ : Shape).Idx => Cert.Moe.layer _ _ _ _ _ (j 0) (j 1), Cert.KernelIdeal.Moe.run_layer g (Cert.KernelIdeal.Moe.holds_of hpre hagree),
      (θ_run _ _ _).mono (fun r h => ⟨funext fun j => (congrArg _ (ValueIdx.eq_ix2 j)).trans ((h 0).1 (j 0) (j 1)), (h 0).2⟩)
        (Cert.ReferenceIdeal.Moe.run_layer m' g')⟩

theorem claim : Cert.Claim :=
  ⟨Cert.Kernel.Gen.facts, Cert.KernelIdeal.Gen.facts, Cert.ReferenceIdeal.Gen.facts, Cert.Pre_finite_scores_KernelIdeal.Gen.facts,
    Cert.Pre_finite_scores_ReferenceIdeal.Gen.facts, frame_kernel, frame_ideal, frame_ideal_pre, frame_reference, frame_reference_pre, trivial, same_layer⟩

end Cert.Proof

end
